-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S4096x8192 : Shape := ⟨2, ![4096, 8192]⟩
abbrev S2x2x128x4096 : Shape := ⟨4, ![2, 2, 128, 4096]⟩
abbrev S2x128x4096 : Shape := ⟨3, ![2, 128, 4096]⟩
abbrev S15x2 : Shape := ⟨2, ![15, 2]⟩
abbrev S2 : Shape := ⟨1, ![2]⟩
abbrev S_ : Shape := ⟨0, ![]⟩
abbrev S128x256 : Shape := ⟨2, ![128, 256]⟩
abbrev S256x4096 : Shape := ⟨2, ![256, 4096]⟩
abbrev S128x4096 : Shape := ⟨2, ![128, 4096]⟩
abbrev S1x128x4096 : Shape := ⟨3, ![1, 128, 4096]⟩
abbrev S1x1 : Shape := ⟨2, ![1, 1]⟩
abbrev S1x1x128x4096 : Shape := ⟨4, ![1, 1, 128, 4096]⟩

abbrev nBuf : Space → Nat
  | .hbm => 5
  | .vmem => 8
  | .smem => 2
  | _ => 0

abbrev bufTy : (tb : Table) → Fin (tcTables nBuf tb) → BufTy
  | .hbm, ⟨0, _⟩ => ⟨S4096x256, .i8⟩
  | .hbm, ⟨1, _⟩ => ⟨S256x8192, .i8⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x256, .i8⟩
  | .local _ .vmem, ⟨1, _⟩ => ⟨S256x8192, .i8⟩
  | .local _ .vmem, ⟨2, _⟩ => ⟨S2x2x128x4096, .i32⟩
  | .local _ .vmem, ⟨3, _⟩ => ⟨S2x2x128x4096, .i32⟩
  | .local _ .vmem, ⟨4, _⟩ => ⟨S2x128x4096, .i32⟩
  | .local _ .vmem, ⟨5, _⟩ => ⟨S2x128x4096, .i32⟩
  | .local _ .vmem, ⟨6, _⟩ => ⟨S2x128x4096, .f32⟩
  | .local _ .vmem, ⟨7, _⟩ => ⟨S2x128x4096, .f32⟩
  | .local _ .smem, ⟨0, _⟩ => ⟨S1, .f32⟩
  | .local _ .smem, ⟨1, _⟩ => ⟨S1, .f32⟩
  | _, _ => ⟨S4096x256, .i8⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 248 → Bool
  | ⟨i, _⟩ => dmaSemScopedAt i

abbrev sig : RefSig :=
  (ofTc nBuf bufTy 3 248 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) (c0_i32_12 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.addi v2 c0_i32_10
  let c32_i32 : BitVec 32 := 32#32
  let v14 : BitVec 32 := Scalar.addi v13 c32_i32
  let c16_i32_11 : BitVec 32 := 16#32
  let v15 : BitVec 32 := Scalar.remsi v14 c16_i32_11
  let c256_i32 : BitVec 32 := 256#32
  let v16 : BitVec 32 := Scalar.muli v15 c256_i32
  let v17 : BitVec 32 := Scalar.addi v16 c0_i32_12
  let v18 : Index := Scalar.indexCast v17
  let c0 : Index := 0#32
  ![v18.toNat, 0]
def k0_off1_at (r : Fin 62) : BitVec 32 × BitVec 32 :=
  if r.val < 31 then
    if r.val < 15 then
      if r.val < 7 then
        if r.val < 3 then
          if r.val < 1 then
            (0#32, 0#32)
          else
            if r.val < 2 then
              (0#32, 128#32)
            else
              (4294967295#32, 0#32)
        else
          if r.val < 5 then
            if r.val < 4 then
              (1#32, 0#32)
            else
              (4294967295#32, 128#32)
          else
            if r.val < 6 then
              (1#32, 128#32)
            else
              (4294967294#32, 0#32)
      else
        if r.val < 11 then
          if r.val < 9 then
            if r.val < 8 then
              (2#32, 0#32)
            else
              (4294967294#32, 128#32)
          else
            if r.val < 10 then
              (2#32, 128#32)
            else
              (4294967293#32, 0#32)
        else
          if r.val < 13 then
            if r.val < 12 then
              (3#32, 0#32)
            else
              (4294967293#32, 128#32)
          else
            if r.val < 14 then
              (3#32, 128#32)
            else
              (4294967292#32, 0#32)
    else
      if r.val < 23 then
        if r.val < 19 then
          if r.val < 17 then
            if r.val < 16 then
              (4#32, 0#32)
            else
              (4294967292#32, 128#32)
          else
            if r.val < 18 then
              (4#32, 128#32)
            else
              (4294967291#32, 0#32)
        else
          if r.val < 21 then
            if r.val < 20 then
              (5#32, 0#32)
            else
              (4294967291#32, 128#32)
          else
            if r.val < 22 then
              (5#32, 128#32)
            else
              (4294967290#32, 0#32)
      else
        if r.val < 27 then
          if r.val < 25 then
            if r.val < 24 then
              (6#32, 0#32)
            else
              (4294967290#32, 128#32)
          else
            if r.val < 26 then
              (6#32, 128#32)
            else
              (4294967289#32, 0#32)
        else
          if r.val < 29 then
            if r.val < 28 then
              (7#32, 0#32)
            else
              (4294967289#32, 128#32)
          else
            if r.val < 30 then
              (7#32, 128#32)
            else
              (4294967288#32, 0#32)
  else
    if r.val < 46 then
      if r.val < 38 then
        if r.val < 34 then
          if r.val < 32 then
            (8#32, 0#32)
          else
            if r.val < 33 then
              (4294967288#32, 128#32)
            else
              (8#32, 128#32)
        else
          if r.val < 36 then
            if r.val < 35 then
              (4294967287#32, 0#32)
            else
              (9#32, 0#32)
          else
            if r.val < 37 then
              (4294967287#32, 128#32)
            else
              (9#32, 128#32)
      else
        if r.val < 42 then
          if r.val < 40 then
            if r.val < 39 then
              (4294967286#32, 0#32)
            else
              (10#32, 0#32)
          else
            if r.val < 41 then
              (4294967286#32, 128#32)
            else
              (10#32, 128#32)
        else
          if r.val < 44 then
            if r.val < 43 then
              (4294967285#32, 0#32)
            else
              (11#32, 0#32)
          else
            if r.val < 45 then
              (4294967285#32, 128#32)
            else
              (11#32, 128#32)
    else
      if r.val < 54 then
        if r.val < 50 then
          if r.val < 48 then
            if r.val < 47 then
              (4294967284#32, 0#32)
            else
              (12#32, 0#32)
          else
            if r.val < 49 then
              (4294967284#32, 128#32)
            else
              (12#32, 128#32)
        else
          if r.val < 52 then
            if r.val < 51 then
              (4294967283#32, 0#32)
            else
              (13#32, 0#32)
          else
            if r.val < 53 then
              (4294967283#32, 128#32)
            else
              (13#32, 128#32)
      else
        if r.val < 58 then
          if r.val < 56 then
            if r.val < 55 then
              (4294967282#32, 0#32)
            else
              (14#32, 0#32)
          else
            if r.val < 57 then
              (4294967282#32, 128#32)
            else
              (14#32, 128#32)
        else
          if r.val < 60 then
            if r.val < 59 then
              (4294967281#32, 0#32)
            else
              (15#32, 0#32)
          else
            if r.val < 61 then
              (4294967281#32, 128#32)
            else
              (15#32, 128#32)
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_25 : BitVec 32 := 1#32
  let v27 : BitVec 32 := Scalar.muli v7 c1_i32_25
  let v28 : BitVec 32 := Scalar.addi c0_i32_26 v27
  v28.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_48 : BitVec 32 := 1#32
  let v51 : BitVec 32 := Scalar.muli v7 c1_i32_48
  let v52 : BitVec 32 := Scalar.addi c0_i32_49 v51
  v52.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_72 : BitVec 32 := 1#32
  let v75 : BitVec 32 := Scalar.muli v5 c1_i32_72
  let v76 : BitVec 32 := Scalar.addi c0_i32_73 v75
  v76.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_97 : BitVec 32 := 1#32
  let v99 : BitVec 32 := Scalar.muli v5 c1_i32_97
  let v100 : BitVec 32 := Scalar.addi c0_i32_98 v99
  v100.toNat
def k0_dev7 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_150 : BitVec 32 := 1#32
  let v140 : BitVec 32 := Scalar.muli v7 c1_i32_150
  let v141 : BitVec 32 := Scalar.addi c0_i32_151 v140
  v141.toNat
def k0_dev8 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_204 : BitVec 32 := 1#32
  let v181 : BitVec 32 := Scalar.muli v5 c1_i32_204
  let v182 : BitVec 32 := Scalar.addi c0_i32_205 v181
  v182.toNat
def k0_dev9 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_258 : BitVec 32 := 1#32
  let v222 : BitVec 32 := Scalar.muli v7 c1_i32_258
  let v223 : BitVec 32 := Scalar.addi c0_i32_259 v222
  v223.toNat
def k0_dev10 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_312 : BitVec 32 := 1#32
  let v263 : BitVec 32 := Scalar.muli v5 c1_i32_312
  let v264 : BitVec 32 := Scalar.addi c0_i32_313 v263
  v264.toNat
def k0_dev11 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_319 : BitVec 32 := 1#32
  let v273 : BitVec 32 := Scalar.muli v5 c1_i32_319
  let v274 : BitVec 32 := Scalar.addi c0_i32_320 v273
  v274.toNat
def k0_dev12 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_322 : BitVec 32 := 1#32
  let v275 : BitVec 32 := Scalar.muli v7 c1_i32_322
  let v276 : BitVec 32 := Scalar.addi c0_i32_323 v275
  v276.toNat
def k0_dev13 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_373 : BitVec 32 := 1#32
  let v308 : BitVec 32 := Scalar.muli v7 c1_i32_373
  let v309 : BitVec 32 := Scalar.addi c0_i32_374 v308
  v309.toNat
def k0_dev14 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_429 : BitVec 32 := 1#32
  let v349 : BitVec 32 := Scalar.muli v5 c1_i32_429
  let v350 : BitVec 32 := Scalar.addi c0_i32_430 v349
  v350.toNat
def k0_dev15 (d0 : Dev nD) : Nat :=
  let c0_i32_484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_483 : BitVec 32 := 1#32
  let v390 : BitVec 32 := Scalar.muli v7 c1_i32_483
  let v391 : BitVec 32 := Scalar.addi c0_i32_484 v390
  v391.toNat
def k0_dev16 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_537 : BitVec 32 := 1#32
  let v431 : BitVec 32 := Scalar.muli v5 c1_i32_537
  let v432 : BitVec 32 := Scalar.addi c0_i32_538 v431
  v432.toNat
def k0_dev17 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_544 : BitVec 32 := 1#32
  let v441 : BitVec 32 := Scalar.muli v5 c1_i32_544
  let v442 : BitVec 32 := Scalar.addi c0_i32_545 v441
  v442.toNat
def k0_dev18 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_547 : BitVec 32 := 1#32
  let v443 : BitVec 32 := Scalar.muli v7 c1_i32_547
  let v444 : BitVec 32 := Scalar.addi c0_i32_548 v443
  v444.toNat
def k0_dev19 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_597 : BitVec 32 := 1#32
  let v476 : BitVec 32 := Scalar.muli v7 c1_i32_597
  let v477 : BitVec 32 := Scalar.addi c0_i32_598 v476
  v477.toNat
def k0_dev20 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_653 : BitVec 32 := 1#32
  let v517 : BitVec 32 := Scalar.muli v5 c1_i32_653
  let v518 : BitVec 32 := Scalar.addi c0_i32_654 v517
  v518.toNat
def k0_dev21 (d0 : Dev nD) : Nat :=
  let c0_i32_708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_707 : BitVec 32 := 1#32
  let v558 : BitVec 32 := Scalar.muli v7 c1_i32_707
  let v559 : BitVec 32 := Scalar.addi c0_i32_708 v558
  v559.toNat
def k0_dev22 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_761 : BitVec 32 := 1#32
  let v599 : BitVec 32 := Scalar.muli v5 c1_i32_761
  let v600 : BitVec 32 := Scalar.addi c0_i32_762 v599
  v600.toNat
def k0_dev23 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_768 : BitVec 32 := 1#32
  let v609 : BitVec 32 := Scalar.muli v5 c1_i32_768
  let v610 : BitVec 32 := Scalar.addi c0_i32_769 v609
  v610.toNat
def k0_dev24 (d0 : Dev nD) : Nat :=
  let c0_i32_772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_771 : BitVec 32 := 1#32
  let v611 : BitVec 32 := Scalar.muli v7 c1_i32_771
  let v612 : BitVec 32 := Scalar.addi c0_i32_772 v611
  v612.toNat
def k0_dev25 (d0 : Dev nD) : Nat :=
  let c0_i32_822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_821 : BitVec 32 := 1#32
  let v644 : BitVec 32 := Scalar.muli v7 c1_i32_821
  let v645 : BitVec 32 := Scalar.addi c0_i32_822 v644
  v645.toNat
def k0_dev26 (d0 : Dev nD) : Nat :=
  let c0_i32_878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_877 : BitVec 32 := 1#32
  let v685 : BitVec 32 := Scalar.muli v5 c1_i32_877
  let v686 : BitVec 32 := Scalar.addi c0_i32_878 v685
  v686.toNat
def k0_dev27 (d0 : Dev nD) : Nat :=
  let c0_i32_932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_931 : BitVec 32 := 1#32
  let v726 : BitVec 32 := Scalar.muli v7 c1_i32_931
  let v727 : BitVec 32 := Scalar.addi c0_i32_932 v726
  v727.toNat
def k0_dev28 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_985 : BitVec 32 := 1#32
  let v767 : BitVec 32 := Scalar.muli v5 c1_i32_985
  let v768 : BitVec 32 := Scalar.addi c0_i32_986 v767
  v768.toNat
def k0_dev29 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_992 : BitVec 32 := 1#32
  let v777 : BitVec 32 := Scalar.muli v5 c1_i32_992
  let v778 : BitVec 32 := Scalar.addi c0_i32_993 v777
  v778.toNat
def k0_dev30 (d0 : Dev nD) : Nat :=
  let c0_i32_996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_995 : BitVec 32 := 1#32
  let v779 : BitVec 32 := Scalar.muli v7 c1_i32_995
  let v780 : BitVec 32 := Scalar.addi c0_i32_996 v779
  v780.toNat
def k0_dev31 (d0 : Dev nD) : Nat :=
  let c0_i32_1046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1045 : BitVec 32 := 1#32
  let v812 : BitVec 32 := Scalar.muli v7 c1_i32_1045
  let v813 : BitVec 32 := Scalar.addi c0_i32_1046 v812
  v813.toNat
def k0_dev32 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1101 : BitVec 32 := 1#32
  let v853 : BitVec 32 := Scalar.muli v5 c1_i32_1101
  let v854 : BitVec 32 := Scalar.addi c0_i32_1102 v853
  v854.toNat
def k0_dev33 (d0 : Dev nD) : Nat :=
  let c0_i32_1156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1155 : BitVec 32 := 1#32
  let v894 : BitVec 32 := Scalar.muli v7 c1_i32_1155
  let v895 : BitVec 32 := Scalar.addi c0_i32_1156 v894
  v895.toNat
def k0_dev34 (d0 : Dev nD) : Nat :=
  let c0_i32_1210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1209 : BitVec 32 := 1#32
  let v935 : BitVec 32 := Scalar.muli v5 c1_i32_1209
  let v936 : BitVec 32 := Scalar.addi c0_i32_1210 v935
  v936.toNat
def k0_dev35 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1216 : BitVec 32 := 1#32
  let v945 : BitVec 32 := Scalar.muli v5 c1_i32_1216
  let v946 : BitVec 32 := Scalar.addi c0_i32_1217 v945
  v946.toNat
def k0_dev36 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1219 : BitVec 32 := 1#32
  let v947 : BitVec 32 := Scalar.muli v7 c1_i32_1219
  let v948 : BitVec 32 := Scalar.addi c0_i32_1220 v947
  v948.toNat
def k0_dev37 (d0 : Dev nD) : Nat :=
  let c0_i32_1270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1269 : BitVec 32 := 1#32
  let v980 : BitVec 32 := Scalar.muli v7 c1_i32_1269
  let v981 : BitVec 32 := Scalar.addi c0_i32_1270 v980
  v981.toNat
def k0_dev38 (d0 : Dev nD) : Nat :=
  let c0_i32_1326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1325 : BitVec 32 := 1#32
  let v1021 : BitVec 32 := Scalar.muli v5 c1_i32_1325
  let v1022 : BitVec 32 := Scalar.addi c0_i32_1326 v1021
  v1022.toNat
def k0_dev39 (d0 : Dev nD) : Nat :=
  let c0_i32_1380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1379 : BitVec 32 := 1#32
  let v1062 : BitVec 32 := Scalar.muli v7 c1_i32_1379
  let v1063 : BitVec 32 := Scalar.addi c0_i32_1380 v1062
  v1063.toNat
def k0_dev40 (d0 : Dev nD) : Nat :=
  let c0_i32_1434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1433 : BitVec 32 := 1#32
  let v1103 : BitVec 32 := Scalar.muli v5 c1_i32_1433
  let v1104 : BitVec 32 := Scalar.addi c0_i32_1434 v1103
  v1104.toNat
def k0_dev41 (d0 : Dev nD) : Nat :=
  let c0_i32_1441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1440 : BitVec 32 := 1#32
  let v1113 : BitVec 32 := Scalar.muli v5 c1_i32_1440
  let v1114 : BitVec 32 := Scalar.addi c0_i32_1441 v1113
  v1114.toNat
def k0_dev42 (d0 : Dev nD) : Nat :=
  let c0_i32_1444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1443 : BitVec 32 := 1#32
  let v1115 : BitVec 32 := Scalar.muli v7 c1_i32_1443
  let v1116 : BitVec 32 := Scalar.addi c0_i32_1444 v1115
  v1116.toNat
def k0_dev43 (d0 : Dev nD) : Nat :=
  let c0_i32_1494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1493 : BitVec 32 := 1#32
  let v1148 : BitVec 32 := Scalar.muli v7 c1_i32_1493
  let v1149 : BitVec 32 := Scalar.addi c0_i32_1494 v1148
  v1149.toNat
def k0_dev44 (d0 : Dev nD) : Nat :=
  let c0_i32_1550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1549 : BitVec 32 := 1#32
  let v1189 : BitVec 32 := Scalar.muli v5 c1_i32_1549
  let v1190 : BitVec 32 := Scalar.addi c0_i32_1550 v1189
  v1190.toNat
def k0_dev45 (d0 : Dev nD) : Nat :=
  let c0_i32_1604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1603 : BitVec 32 := 1#32
  let v1230 : BitVec 32 := Scalar.muli v7 c1_i32_1603
  let v1231 : BitVec 32 := Scalar.addi c0_i32_1604 v1230
  v1231.toNat
def k0_dev46 (d0 : Dev nD) : Nat :=
  let c0_i32_1658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1657 : BitVec 32 := 1#32
  let v1271 : BitVec 32 := Scalar.muli v5 c1_i32_1657
  let v1272 : BitVec 32 := Scalar.addi c0_i32_1658 v1271
  v1272.toNat
def k0_dev47 (d0 : Dev nD) : Nat :=
  let c0_i32_1665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1664 : BitVec 32 := 1#32
  let v1281 : BitVec 32 := Scalar.muli v5 c1_i32_1664
  let v1282 : BitVec 32 := Scalar.addi c0_i32_1665 v1281
  v1282.toNat
def k0_dev48 (d0 : Dev nD) : Nat :=
  let c0_i32_1668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1667 : BitVec 32 := 1#32
  let v1283 : BitVec 32 := Scalar.muli v7 c1_i32_1667
  let v1284 : BitVec 32 := Scalar.addi c0_i32_1668 v1283
  v1284.toNat
def k0_dev49 (d0 : Dev nD) : Nat :=
  let c0_i32_1718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1717 : BitVec 32 := 1#32
  let v1316 : BitVec 32 := Scalar.muli v7 c1_i32_1717
  let v1317 : BitVec 32 := Scalar.addi c0_i32_1718 v1316
  v1317.toNat
def k0_dev50 (d0 : Dev nD) : Nat :=
  let c0_i32_1774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1773 : BitVec 32 := 1#32
  let v1357 : BitVec 32 := Scalar.muli v5 c1_i32_1773
  let v1358 : BitVec 32 := Scalar.addi c0_i32_1774 v1357
  v1358.toNat
def k0_dev51 (d0 : Dev nD) : Nat :=
  let c0_i32_1828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1827 : BitVec 32 := 1#32
  let v1398 : BitVec 32 := Scalar.muli v7 c1_i32_1827
  let v1399 : BitVec 32 := Scalar.addi c0_i32_1828 v1398
  v1399.toNat
def k0_dev52 (d0 : Dev nD) : Nat :=
  let c0_i32_1882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1881 : BitVec 32 := 1#32
  let v1439 : BitVec 32 := Scalar.muli v5 c1_i32_1881
  let v1440 : BitVec 32 := Scalar.addi c0_i32_1882 v1439
  v1440.toNat
def k0_dev53 (d0 : Dev nD) : Nat :=
  let c0_i32_1889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1888 : BitVec 32 := 1#32
  let v1449 : BitVec 32 := Scalar.muli v5 c1_i32_1888
  let v1450 : BitVec 32 := Scalar.addi c0_i32_1889 v1449
  v1450.toNat
def k0_dev54 (d0 : Dev nD) : Nat :=
  let c0_i32_1892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1891 : BitVec 32 := 1#32
  let v1451 : BitVec 32 := Scalar.muli v7 c1_i32_1891
  let v1452 : BitVec 32 := Scalar.addi c0_i32_1892 v1451
  v1452.toNat
def k0_dev55 (d0 : Dev nD) : Nat :=
  let c0_i32_1942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1941 : BitVec 32 := 1#32
  let v1484 : BitVec 32 := Scalar.muli v7 c1_i32_1941
  let v1485 : BitVec 32 := Scalar.addi c0_i32_1942 v1484
  v1485.toNat
def k0_dev56 (d0 : Dev nD) : Nat :=
  let c0_i32_1998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1997 : BitVec 32 := 1#32
  let v1525 : BitVec 32 := Scalar.muli v5 c1_i32_1997
  let v1526 : BitVec 32 := Scalar.addi c0_i32_1998 v1525
  v1526.toNat
def k0_dev57 (d0 : Dev nD) : Nat :=
  let c0_i32_2052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2051 : BitVec 32 := 1#32
  let v1566 : BitVec 32 := Scalar.muli v7 c1_i32_2051
  let v1567 : BitVec 32 := Scalar.addi c0_i32_2052 v1566
  v1567.toNat
def k0_dev58 (d0 : Dev nD) : Nat :=
  let c0_i32_2106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2105 : BitVec 32 := 1#32
  let v1607 : BitVec 32 := Scalar.muli v5 c1_i32_2105
  let v1608 : BitVec 32 := Scalar.addi c0_i32_2106 v1607
  v1608.toNat
def k0_dev59 (d0 : Dev nD) : Nat :=
  let c0_i32_2113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2112 : BitVec 32 := 1#32
  let v1617 : BitVec 32 := Scalar.muli v5 c1_i32_2112
  let v1618 : BitVec 32 := Scalar.addi c0_i32_2113 v1617
  v1618.toNat
def k0_dev60 (d0 : Dev nD) : Nat :=
  let c0_i32_2116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2115 : BitVec 32 := 1#32
  let v1619 : BitVec 32 := Scalar.muli v7 c1_i32_2115
  let v1620 : BitVec 32 := Scalar.addi c0_i32_2116 v1619
  v1620.toNat
def k0_dev61 (d0 : Dev nD) : Nat :=
  let c0_i32_2166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2165 : BitVec 32 := 1#32
  let v1652 : BitVec 32 := Scalar.muli v7 c1_i32_2165
  let v1653 : BitVec 32 := Scalar.addi c0_i32_2166 v1652
  v1653.toNat
def k0_dev62 (d0 : Dev nD) : Nat :=
  let c0_i32_2222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2221 : BitVec 32 := 1#32
  let v1693 : BitVec 32 := Scalar.muli v5 c1_i32_2221
  let v1694 : BitVec 32 := Scalar.addi c0_i32_2222 v1693
  v1694.toNat
def k0_dev63 (d0 : Dev nD) : Nat :=
  let c0_i32_2276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2275 : BitVec 32 := 1#32
  let v1734 : BitVec 32 := Scalar.muli v7 c1_i32_2275
  let v1735 : BitVec 32 := Scalar.addi c0_i32_2276 v1734
  v1735.toNat
def k0_dev64 (d0 : Dev nD) : Nat :=
  let c0_i32_2330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2329 : BitVec 32 := 1#32
  let v1775 : BitVec 32 := Scalar.muli v5 c1_i32_2329
  let v1776 : BitVec 32 := Scalar.addi c0_i32_2330 v1775
  v1776.toNat
def k0_dev65 (d0 : Dev nD) : Nat :=
  let c0_i32_2337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2336 : BitVec 32 := 1#32
  let v1785 : BitVec 32 := Scalar.muli v5 c1_i32_2336
  let v1786 : BitVec 32 := Scalar.addi c0_i32_2337 v1785
  v1786.toNat
def k0_dev66 (d0 : Dev nD) : Nat :=
  let c0_i32_2340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2339 : BitVec 32 := 1#32
  let v1787 : BitVec 32 := Scalar.muli v7 c1_i32_2339
  let v1788 : BitVec 32 := Scalar.addi c0_i32_2340 v1787
  v1788.toNat
def k0_dev67 (d0 : Dev nD) : Nat :=
  let c0_i32_2390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2389 : BitVec 32 := 1#32
  let v1820 : BitVec 32 := Scalar.muli v7 c1_i32_2389
  let v1821 : BitVec 32 := Scalar.addi c0_i32_2390 v1820
  v1821.toNat
def k0_dev68 (d0 : Dev nD) : Nat :=
  let c0_i32_2446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2445 : BitVec 32 := 1#32
  let v1861 : BitVec 32 := Scalar.muli v5 c1_i32_2445
  let v1862 : BitVec 32 := Scalar.addi c0_i32_2446 v1861
  v1862.toNat
def k0_dev69 (d0 : Dev nD) : Nat :=
  let c0_i32_2500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2499 : BitVec 32 := 1#32
  let v1902 : BitVec 32 := Scalar.muli v7 c1_i32_2499
  let v1903 : BitVec 32 := Scalar.addi c0_i32_2500 v1902
  v1903.toNat
def k0_dev70 (d0 : Dev nD) : Nat :=
  let c0_i32_2554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2553 : BitVec 32 := 1#32
  let v1943 : BitVec 32 := Scalar.muli v5 c1_i32_2553
  let v1944 : BitVec 32 := Scalar.addi c0_i32_2554 v1943
  v1944.toNat
def k0_dev71 (d0 : Dev nD) : Nat :=
  let c0_i32_2561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2560 : BitVec 32 := 1#32
  let v1953 : BitVec 32 := Scalar.muli v5 c1_i32_2560
  let v1954 : BitVec 32 := Scalar.addi c0_i32_2561 v1953
  v1954.toNat
def k0_dev72 (d0 : Dev nD) : Nat :=
  let c0_i32_2564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2563 : BitVec 32 := 1#32
  let v1955 : BitVec 32 := Scalar.muli v7 c1_i32_2563
  let v1956 : BitVec 32 := Scalar.addi c0_i32_2564 v1955
  v1956.toNat
def k0_dev73 (d0 : Dev nD) : Nat :=
  let c0_i32_2614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2613 : BitVec 32 := 1#32
  let v1988 : BitVec 32 := Scalar.muli v7 c1_i32_2613
  let v1989 : BitVec 32 := Scalar.addi c0_i32_2614 v1988
  v1989.toNat
def k0_dev74 (d0 : Dev nD) : Nat :=
  let c0_i32_2670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2669 : BitVec 32 := 1#32
  let v2029 : BitVec 32 := Scalar.muli v5 c1_i32_2669
  let v2030 : BitVec 32 := Scalar.addi c0_i32_2670 v2029
  v2030.toNat
def k0_dev75 (d0 : Dev nD) : Nat :=
  let c0_i32_2724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2723 : BitVec 32 := 1#32
  let v2070 : BitVec 32 := Scalar.muli v7 c1_i32_2723
  let v2071 : BitVec 32 := Scalar.addi c0_i32_2724 v2070
  v2071.toNat
def k0_dev76 (d0 : Dev nD) : Nat :=
  let c0_i32_2778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2777 : BitVec 32 := 1#32
  let v2111 : BitVec 32 := Scalar.muli v5 c1_i32_2777
  let v2112 : BitVec 32 := Scalar.addi c0_i32_2778 v2111
  v2112.toNat
def k0_dev77 (d0 : Dev nD) : Nat :=
  let c0_i32_2785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2784 : BitVec 32 := 1#32
  let v2121 : BitVec 32 := Scalar.muli v5 c1_i32_2784
  let v2122 : BitVec 32 := Scalar.addi c0_i32_2785 v2121
  v2122.toNat
def k0_dev78 (d0 : Dev nD) : Nat :=
  let c0_i32_2788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2787 : BitVec 32 := 1#32
  let v2123 : BitVec 32 := Scalar.muli v7 c1_i32_2787
  let v2124 : BitVec 32 := Scalar.addi c0_i32_2788 v2123
  v2124.toNat
def k0_dev79 (d0 : Dev nD) : Nat :=
  let c0_i32_2838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2837 : BitVec 32 := 1#32
  let v2156 : BitVec 32 := Scalar.muli v7 c1_i32_2837
  let v2157 : BitVec 32 := Scalar.addi c0_i32_2838 v2156
  v2157.toNat
def k0_dev80 (d0 : Dev nD) : Nat :=
  let c0_i32_2894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2893 : BitVec 32 := 1#32
  let v2197 : BitVec 32 := Scalar.muli v5 c1_i32_2893
  let v2198 : BitVec 32 := Scalar.addi c0_i32_2894 v2197
  v2198.toNat
def k0_dev81 (d0 : Dev nD) : Nat :=
  let c0_i32_2948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2947 : BitVec 32 := 1#32
  let v2238 : BitVec 32 := Scalar.muli v7 c1_i32_2947
  let v2239 : BitVec 32 := Scalar.addi c0_i32_2948 v2238
  v2239.toNat
def k0_dev82 (d0 : Dev nD) : Nat :=
  let c0_i32_3002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3001 : BitVec 32 := 1#32
  let v2279 : BitVec 32 := Scalar.muli v5 c1_i32_3001
  let v2280 : BitVec 32 := Scalar.addi c0_i32_3002 v2279
  v2280.toNat
def k0_dev83 (d0 : Dev nD) : Nat :=
  let c0_i32_3009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3008 : BitVec 32 := 1#32
  let v2289 : BitVec 32 := Scalar.muli v5 c1_i32_3008
  let v2290 : BitVec 32 := Scalar.addi c0_i32_3009 v2289
  v2290.toNat
def k0_dev84 (d0 : Dev nD) : Nat :=
  let c0_i32_3012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3011 : BitVec 32 := 1#32
  let v2291 : BitVec 32 := Scalar.muli v7 c1_i32_3011
  let v2292 : BitVec 32 := Scalar.addi c0_i32_3012 v2291
  v2292.toNat
def k0_dev85 (d0 : Dev nD) : Nat :=
  let c0_i32_3062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3061 : BitVec 32 := 1#32
  let v2324 : BitVec 32 := Scalar.muli v7 c1_i32_3061
  let v2325 : BitVec 32 := Scalar.addi c0_i32_3062 v2324
  v2325.toNat
def k0_dev86 (d0 : Dev nD) : Nat :=
  let c0_i32_3118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3117 : BitVec 32 := 1#32
  let v2365 : BitVec 32 := Scalar.muli v5 c1_i32_3117
  let v2366 : BitVec 32 := Scalar.addi c0_i32_3118 v2365
  v2366.toNat
def k0_dev87 (d0 : Dev nD) : Nat :=
  let c0_i32_3172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3171 : BitVec 32 := 1#32
  let v2406 : BitVec 32 := Scalar.muli v7 c1_i32_3171
  let v2407 : BitVec 32 := Scalar.addi c0_i32_3172 v2406
  v2407.toNat
def k0_dev88 (d0 : Dev nD) : Nat :=
  let c0_i32_3226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3225 : BitVec 32 := 1#32
  let v2447 : BitVec 32 := Scalar.muli v5 c1_i32_3225
  let v2448 : BitVec 32 := Scalar.addi c0_i32_3226 v2447
  v2448.toNat
def k0_off2 (d0 : Dev nD) (c1_i32_3268 : BitVec 32) (c0_i32_3277 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2485 : BitVec 32 := Scalar.addi v2 c1_i32_3268
  let c32_i32_3269 : BitVec 32 := 32#32
  let v2486 : BitVec 32 := Scalar.addi v2485 c32_i32_3269
  let c16_i32_3270 : BitVec 32 := 16#32
  let v2487 : BitVec 32 := Scalar.remsi v2486 c16_i32_3270
  let c256_i32_3276 : BitVec 32 := 256#32
  let v2497 : BitVec 32 := Scalar.muli v2487 c256_i32_3276
  let v2498 : BitVec 32 := Scalar.addi v2497 c0_i32_3277
  let c0_i32_3285 : BitVec 32 := 0#32
  ![v2498.toNat, 0]
def k0_off2_at (r : Fin 30) : BitVec 32 × BitVec 32 :=
  if r.val < 15 then
    if r.val < 7 then
      if r.val < 3 then
        if r.val < 1 then
          (1#32, 0#32)
        else
          if r.val < 2 then
            (1#32, 128#32)
          else
            (0#32, 0#32)
      else
        if r.val < 5 then
          if r.val < 4 then
            (0#32, 128#32)
          else
            (4294967295#32, 0#32)
        else
          if r.val < 6 then
            (4294967295#32, 128#32)
          else
            (4294967294#32, 0#32)
    else
      if r.val < 11 then
        if r.val < 9 then
          if r.val < 8 then
            (4294967294#32, 128#32)
          else
            (4294967293#32, 0#32)
        else
          if r.val < 10 then
            (4294967293#32, 128#32)
          else
            (4294967292#32, 0#32)
      else
        if r.val < 13 then
          if r.val < 12 then
            (4294967292#32, 128#32)
          else
            (4294967291#32, 0#32)
        else
          if r.val < 14 then
            (4294967291#32, 128#32)
          else
            (4294967290#32, 0#32)
  else
    if r.val < 22 then
      if r.val < 18 then
        if r.val < 16 then
          (4294967290#32, 128#32)
        else
          if r.val < 17 then
            (4294967289#32, 0#32)
          else
            (4294967289#32, 128#32)
      else
        if r.val < 20 then
          if r.val < 19 then
            (4294967288#32, 0#32)
          else
            (4294967288#32, 128#32)
        else
          if r.val < 21 then
            (4294967287#32, 0#32)
          else
            (4294967287#32, 128#32)
    else
      if r.val < 26 then
        if r.val < 24 then
          if r.val < 23 then
            (4294967286#32, 0#32)
          else
            (4294967286#32, 128#32)
        else
          if r.val < 25 then
            (4294967285#32, 0#32)
          else
            (4294967285#32, 128#32)
      else
        if r.val < 28 then
          if r.val < 27 then
            (4294967284#32, 0#32)
          else
            (4294967284#32, 128#32)
        else
          if r.val < 29 then
            (4294967283#32, 0#32)
          else
            (4294967283#32, 128#32)
def k0_dev89 (d0 : Dev nD) : Nat :=
  let c0_i32_3284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3283 : BitVec 32 := 1#32
  let v2499 : BitVec 32 := Scalar.muli v7 c1_i32_3283
  let v2500 : BitVec 32 := Scalar.addi c0_i32_3284 v2499
  v2500.toNat
def k0_off3 (d0 : Dev nD) (c_m1_i32_3332 : BitVec 32) (c0_i32_3341 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2543 : BitVec 32 := Scalar.addi v2 c_m1_i32_3332
  let c32_i32_3333 : BitVec 32 := 32#32
  let v2544 : BitVec 32 := Scalar.addi v2543 c32_i32_3333
  let c16_i32_3334 : BitVec 32 := 16#32
  let v2545 : BitVec 32 := Scalar.remsi v2544 c16_i32_3334
  let c256_i32_3340 : BitVec 32 := 256#32
  let v2555 : BitVec 32 := Scalar.muli v2545 c256_i32_3340
  let v2556 : BitVec 32 := Scalar.addi v2555 c0_i32_3341
  let c4096_i32 : BitVec 32 := 4096#32
  ![v2556.toNat, 4096]
def k0_off3_at (r : Fin 30) : BitVec 32 × BitVec 32 :=
  if r.val < 15 then
    if r.val < 7 then
      if r.val < 3 then
        if r.val < 1 then
          (4294967295#32, 0#32)
        else
          if r.val < 2 then
            (4294967295#32, 128#32)
          else
            (0#32, 0#32)
      else
        if r.val < 5 then
          if r.val < 4 then
            (0#32, 128#32)
          else
            (1#32, 0#32)
        else
          if r.val < 6 then
            (1#32, 128#32)
          else
            (2#32, 0#32)
    else
      if r.val < 11 then
        if r.val < 9 then
          if r.val < 8 then
            (2#32, 128#32)
          else
            (3#32, 0#32)
        else
          if r.val < 10 then
            (3#32, 128#32)
          else
            (4#32, 0#32)
      else
        if r.val < 13 then
          if r.val < 12 then
            (4#32, 128#32)
          else
            (5#32, 0#32)
        else
          if r.val < 14 then
            (5#32, 128#32)
          else
            (6#32, 0#32)
  else
    if r.val < 22 then
      if r.val < 18 then
        if r.val < 16 then
          (6#32, 128#32)
        else
          if r.val < 17 then
            (7#32, 0#32)
          else
            (7#32, 128#32)
      else
        if r.val < 20 then
          if r.val < 19 then
            (8#32, 0#32)
          else
            (8#32, 128#32)
        else
          if r.val < 21 then
            (9#32, 0#32)
          else
            (9#32, 128#32)
    else
      if r.val < 26 then
        if r.val < 24 then
          if r.val < 23 then
            (10#32, 0#32)
          else
            (10#32, 128#32)
        else
          if r.val < 25 then
            (11#32, 0#32)
          else
            (11#32, 128#32)
      else
        if r.val < 28 then
          if r.val < 27 then
            (12#32, 0#32)
          else
            (12#32, 128#32)
        else
          if r.val < 29 then
            (13#32, 0#32)
          else
            (13#32, 128#32)
def k0_dev90 (d0 : Dev nD) : Nat :=
  let c0_i32_3348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3347 : BitVec 32 := 1#32
  let v2557 : BitVec 32 := Scalar.muli v5 c1_i32_3347
  let v2558 : BitVec 32 := Scalar.addi c0_i32_3348 v2557
  v2558.toNat
def k0_dev91 (d0 : Dev nD) : Nat :=
  let c0_i32_3412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3411 : BitVec 32 := 1#32
  let v2615 : BitVec 32 := Scalar.muli v7 c1_i32_3411
  let v2616 : BitVec 32 := Scalar.addi c0_i32_3412 v2615
  v2616.toNat
def k0_dev92 (d0 : Dev nD) : Nat :=
  let c0_i32_3477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3476 : BitVec 32 := 1#32
  let v2673 : BitVec 32 := Scalar.muli v5 c1_i32_3476
  let v2674 : BitVec 32 := Scalar.addi c0_i32_3477 v2673
  v2674.toNat
def k0_dev93 (d0 : Dev nD) : Nat :=
  let c0_i32_3517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3516 : BitVec 32 := 1#32
  let v2706 : BitVec 32 := Scalar.muli v7 c1_i32_3516
  let v2707 : BitVec 32 := Scalar.addi c0_i32_3517 v2706
  v2707.toNat
def k0_dev94 (d0 : Dev nD) : Nat :=
  let c0_i32_3549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3548 : BitVec 32 := 1#32
  let v2731 : BitVec 32 := Scalar.muli v5 c1_i32_3548
  let v2732 : BitVec 32 := Scalar.addi c0_i32_3549 v2731
  v2732.toNat
def k0_dev95 (d0 : Dev nD) : Nat :=
  let c0_i32_3581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3580 : BitVec 32 := 1#32
  let v2756 : BitVec 32 := Scalar.muli v7 c1_i32_3580
  let v2757 : BitVec 32 := Scalar.addi c0_i32_3581 v2756
  v2757.toNat
def k0_dev96 (d0 : Dev nD) : Nat :=
  let c0_i32_3613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3612 : BitVec 32 := 1#32
  let v2781 : BitVec 32 := Scalar.muli v5 c1_i32_3612
  let v2782 : BitVec 32 := Scalar.addi c0_i32_3613 v2781
  v2782.toNat
def k0_dev97 (d0 : Dev nD) : Nat :=
  let c0_i32_3641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3640 : BitVec 32 := 1#32
  let v2804 : BitVec 32 := Scalar.muli v7 c1_i32_3640
  let v2805 : BitVec 32 := Scalar.addi c0_i32_3641 v2804
  v2805.toNat
def k0_dev98 (d0 : Dev nD) : Nat :=
  let c0_i32_3669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3668 : BitVec 32 := 1#32
  let v2827 : BitVec 32 := Scalar.muli v5 c1_i32_3668
  let v2828 : BitVec 32 := Scalar.addi c0_i32_3669 v2827
  v2828.toNat
def k0_dev99 (d0 : Dev nD) : Nat :=
  let c0_i32_3697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3696 : BitVec 32 := 1#32
  let v2850 : BitVec 32 := Scalar.muli v7 c1_i32_3696
  let v2851 : BitVec 32 := Scalar.addi c0_i32_3697 v2850
  v2851.toNat
def k0_dev100 (d0 : Dev nD) : Nat :=
  let c0_i32_3725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3724 : BitVec 32 := 1#32
  let v2873 : BitVec 32 := Scalar.muli v5 c1_i32_3724
  let v2874 : BitVec 32 := Scalar.addi c0_i32_3725 v2873
  v2874.toNat
def k0_dev101 (d0 : Dev nD) : Nat :=
  let c0_i32_3753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3752 : BitVec 32 := 1#32
  let v2896 : BitVec 32 := Scalar.muli v7 c1_i32_3752
  let v2897 : BitVec 32 := Scalar.addi c0_i32_3753 v2896
  v2897.toNat
def k0_dev102 (d0 : Dev nD) : Nat :=
  let c0_i32_3781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3780 : BitVec 32 := 1#32
  let v2919 : BitVec 32 := Scalar.muli v5 c1_i32_3780
  let v2920 : BitVec 32 := Scalar.addi c0_i32_3781 v2919
  v2920.toNat
def k0_dev103 (d0 : Dev nD) : Nat :=
  let c0_i32_3809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3808 : BitVec 32 := 1#32
  let v2942 : BitVec 32 := Scalar.muli v7 c1_i32_3808
  let v2943 : BitVec 32 := Scalar.addi c0_i32_3809 v2942
  v2943.toNat
def k0_dev104 (d0 : Dev nD) : Nat :=
  let c0_i32_3837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3836 : BitVec 32 := 1#32
  let v2965 : BitVec 32 := Scalar.muli v5 c1_i32_3836
  let v2966 : BitVec 32 := Scalar.addi c0_i32_3837 v2965
  v2966.toNat
def k0_dev105 (d0 : Dev nD) : Nat :=
  let c0_i32_3865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3864 : BitVec 32 := 1#32
  let v2988 : BitVec 32 := Scalar.muli v7 c1_i32_3864
  let v2989 : BitVec 32 := Scalar.addi c0_i32_3865 v2988
  v2989.toNat
def k0_dev106 (d0 : Dev nD) : Nat :=
  let c0_i32_3893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3892 : BitVec 32 := 1#32
  let v3011 : BitVec 32 := Scalar.muli v5 c1_i32_3892
  let v3012 : BitVec 32 := Scalar.addi c0_i32_3893 v3011
  v3012.toNat
def k0_dev107 (d0 : Dev nD) : Nat :=
  let c0_i32_3921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3920 : BitVec 32 := 1#32
  let v3034 : BitVec 32 := Scalar.muli v7 c1_i32_3920
  let v3035 : BitVec 32 := Scalar.addi c0_i32_3921 v3034
  v3035.toNat
def k0_dev108 (d0 : Dev nD) : Nat :=
  let c0_i32_3949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3948 : BitVec 32 := 1#32
  let v3057 : BitVec 32 := Scalar.muli v5 c1_i32_3948
  let v3058 : BitVec 32 := Scalar.addi c0_i32_3949 v3057
  v3058.toNat
def k0_dev109 (d0 : Dev nD) : Nat :=
  let c0_i32_3977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3976 : BitVec 32 := 1#32
  let v3080 : BitVec 32 := Scalar.muli v7 c1_i32_3976
  let v3081 : BitVec 32 := Scalar.addi c0_i32_3977 v3080
  v3081.toNat
def k0_dev110 (d0 : Dev nD) : Nat :=
  let c0_i32_4005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4004 : BitVec 32 := 1#32
  let v3103 : BitVec 32 := Scalar.muli v5 c1_i32_4004
  let v3104 : BitVec 32 := Scalar.addi c0_i32_4005 v3103
  v3104.toNat
def k0_dev111 (d0 : Dev nD) : Nat :=
  let c0_i32_4033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4032 : BitVec 32 := 1#32
  let v3126 : BitVec 32 := Scalar.muli v7 c1_i32_4032
  let v3127 : BitVec 32 := Scalar.addi c0_i32_4033 v3126
  v3127.toNat
def k0_dev112 (d0 : Dev nD) : Nat :=
  let c0_i32_4061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4060 : BitVec 32 := 1#32
  let v3149 : BitVec 32 := Scalar.muli v5 c1_i32_4060
  let v3150 : BitVec 32 := Scalar.addi c0_i32_4061 v3149
  v3150.toNat
def k0_dev113 (d0 : Dev nD) : Nat :=
  let c0_i32_4089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4088 : BitVec 32 := 1#32
  let v3172 : BitVec 32 := Scalar.muli v7 c1_i32_4088
  let v3173 : BitVec 32 := Scalar.addi c0_i32_4089 v3172
  v3173.toNat
def k0_dev114 (d0 : Dev nD) : Nat :=
  let c0_i32_4117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4116 : BitVec 32 := 1#32
  let v3195 : BitVec 32 := Scalar.muli v5 c1_i32_4116
  let v3196 : BitVec 32 := Scalar.addi c0_i32_4117 v3195
  v3196.toNat
def k0_dev115 (d0 : Dev nD) : Nat :=
  let c0_i32_4145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4144 : BitVec 32 := 1#32
  let v3218 : BitVec 32 := Scalar.muli v7 c1_i32_4144
  let v3219 : BitVec 32 := Scalar.addi c0_i32_4145 v3218
  v3219.toNat
def k0_dev116 (d0 : Dev nD) : Nat :=
  let c0_i32_4173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4172 : BitVec 32 := 1#32
  let v3241 : BitVec 32 := Scalar.muli v5 c1_i32_4172
  let v3242 : BitVec 32 := Scalar.addi c0_i32_4173 v3241
  v3242.toNat
def k0_dev117 (d0 : Dev nD) : Nat :=
  let c0_i32_4201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4200 : BitVec 32 := 1#32
  let v3264 : BitVec 32 := Scalar.muli v7 c1_i32_4200
  let v3265 : BitVec 32 := Scalar.addi c0_i32_4201 v3264
  v3265.toNat
def k0_dev118 (d0 : Dev nD) : Nat :=
  let c0_i32_4229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4228 : BitVec 32 := 1#32
  let v3287 : BitVec 32 := Scalar.muli v5 c1_i32_4228
  let v3288 : BitVec 32 := Scalar.addi c0_i32_4229 v3287
  v3288.toNat
def k0_dev119 (d0 : Dev nD) : Nat :=
  let c0_i32_4257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4256 : BitVec 32 := 1#32
  let v3310 : BitVec 32 := Scalar.muli v7 c1_i32_4256
  let v3311 : BitVec 32 := Scalar.addi c0_i32_4257 v3310
  v3311.toNat
def k0_dev120 (d0 : Dev nD) : Nat :=
  let c0_i32_4285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4284 : BitVec 32 := 1#32
  let v3333 : BitVec 32 := Scalar.muli v5 c1_i32_4284
  let v3334 : BitVec 32 := Scalar.addi c0_i32_4285 v3333
  v3334.toNat
def k0_dev121 (d0 : Dev nD) : Nat :=
  let c0_i32_4313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4312 : BitVec 32 := 1#32
  let v3356 : BitVec 32 := Scalar.muli v7 c1_i32_4312
  let v3357 : BitVec 32 := Scalar.addi c0_i32_4313 v3356
  v3357.toNat
def k0_dev122 (d0 : Dev nD) : Nat :=
  let c0_i32_4341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4340 : BitVec 32 := 1#32
  let v3379 : BitVec 32 := Scalar.muli v5 c1_i32_4340
  let v3380 : BitVec 32 := Scalar.addi c0_i32_4341 v3379
  v3380.toNat
def k0_dev123 (d0 : Dev nD) : Nat :=
  let c0_i32_4369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4368 : BitVec 32 := 1#32
  let v3402 : BitVec 32 := Scalar.muli v7 c1_i32_4368
  let v3403 : BitVec 32 := Scalar.addi c0_i32_4369 v3402
  v3403.toNat
def k0_dev124 (d0 : Dev nD) : Nat :=
  let c0_i32_4397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4396 : BitVec 32 := 1#32
  let v3425 : BitVec 32 := Scalar.muli v5 c1_i32_4396
  let v3426 : BitVec 32 := Scalar.addi c0_i32_4397 v3425
  v3426.toNat
def k0_dev125 (d0 : Dev nD) : Nat :=
  let c0_i32_4425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4424 : BitVec 32 := 1#32
  let v3448 : BitVec 32 := Scalar.muli v7 c1_i32_4424
  let v3449 : BitVec 32 := Scalar.addi c0_i32_4425 v3448
  v3449.toNat
def k0_dev126 (d0 : Dev nD) : Nat :=
  let c0_i32_4453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4452 : BitVec 32 := 1#32
  let v3471 : BitVec 32 := Scalar.muli v5 c1_i32_4452
  let v3472 : BitVec 32 := Scalar.addi c0_i32_4453 v3471
  v3472.toNat
def k0_dev127 (d0 : Dev nD) : Nat :=
  let c0_i32_4481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4480 : BitVec 32 := 1#32
  let v3494 : BitVec 32 := Scalar.muli v7 c1_i32_4480
  let v3495 : BitVec 32 := Scalar.addi c0_i32_4481 v3494
  v3495.toNat
def k0_dev128 (d0 : Dev nD) : Nat :=
  let c0_i32_4509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4508 : BitVec 32 := 1#32
  let v3517 : BitVec 32 := Scalar.muli v5 c1_i32_4508
  let v3518 : BitVec 32 := Scalar.addi c0_i32_4509 v3517
  v3518.toNat
def k0_dev129 (d0 : Dev nD) : Nat :=
  let c0_i32_4537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4536 : BitVec 32 := 1#32
  let v3540 : BitVec 32 := Scalar.muli v7 c1_i32_4536
  let v3541 : BitVec 32 := Scalar.addi c0_i32_4537 v3540
  v3541.toNat
def k0_dev130 (d0 : Dev nD) : Nat :=
  let c0_i32_4565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4564 : BitVec 32 := 1#32
  let v3563 : BitVec 32 := Scalar.muli v5 c1_i32_4564
  let v3564 : BitVec 32 := Scalar.addi c0_i32_4565 v3563
  v3564.toNat
def k0_dev131 (d0 : Dev nD) : Nat :=
  let c0_i32_4593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4592 : BitVec 32 := 1#32
  let v3586 : BitVec 32 := Scalar.muli v7 c1_i32_4592
  let v3587 : BitVec 32 := Scalar.addi c0_i32_4593 v3586
  v3587.toNat
def k0_dev132 (d0 : Dev nD) : Nat :=
  let c0_i32_4621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4620 : BitVec 32 := 1#32
  let v3609 : BitVec 32 := Scalar.muli v5 c1_i32_4620
  let v3610 : BitVec 32 := Scalar.addi c0_i32_4621 v3609
  v3610.toNat
def k0_dev133 (d0 : Dev nD) : Nat :=
  let c0_i32_4649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4648 : BitVec 32 := 1#32
  let v3632 : BitVec 32 := Scalar.muli v7 c1_i32_4648
  let v3633 : BitVec 32 := Scalar.addi c0_i32_4649 v3632
  v3633.toNat
def k0_dev134 (d0 : Dev nD) : Nat :=
  let c0_i32_4677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4676 : BitVec 32 := 1#32
  let v3655 : BitVec 32 := Scalar.muli v5 c1_i32_4676
  let v3656 : BitVec 32 := Scalar.addi c0_i32_4677 v3655
  v3656.toNat
def k0_dev135 (d0 : Dev nD) : Nat :=
  let c0_i32_4705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4704 : BitVec 32 := 1#32
  let v3678 : BitVec 32 := Scalar.muli v7 c1_i32_4704
  let v3679 : BitVec 32 := Scalar.addi c0_i32_4705 v3678
  v3679.toNat
def k0_dev136 (d0 : Dev nD) : Nat :=
  let c0_i32_4733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4732 : BitVec 32 := 1#32
  let v3701 : BitVec 32 := Scalar.muli v5 c1_i32_4732
  let v3702 : BitVec 32 := Scalar.addi c0_i32_4733 v3701
  v3702.toNat
def k0_dev137 (d0 : Dev nD) : Nat :=
  let c0_i32_4761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4760 : BitVec 32 := 1#32
  let v3724 : BitVec 32 := Scalar.muli v7 c1_i32_4760
  let v3725 : BitVec 32 := Scalar.addi c0_i32_4761 v3724
  v3725.toNat
def k0_dev138 (d0 : Dev nD) : Nat :=
  let c0_i32_4789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4788 : BitVec 32 := 1#32
  let v3747 : BitVec 32 := Scalar.muli v5 c1_i32_4788
  let v3748 : BitVec 32 := Scalar.addi c0_i32_4789 v3747
  v3748.toNat
def k0_dev139 (d0 : Dev nD) : Nat :=
  let c0_i32_4817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4816 : BitVec 32 := 1#32
  let v3770 : BitVec 32 := Scalar.muli v7 c1_i32_4816
  let v3771 : BitVec 32 := Scalar.addi c0_i32_4817 v3770
  v3771.toNat
def k0_dev140 (d0 : Dev nD) : Nat :=
  let c0_i32_4845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4844 : BitVec 32 := 1#32
  let v3793 : BitVec 32 := Scalar.muli v5 c1_i32_4844
  let v3794 : BitVec 32 := Scalar.addi c0_i32_4845 v3793
  v3794.toNat
def k0_dev141 (d0 : Dev nD) : Nat :=
  let c0_i32_4873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4872 : BitVec 32 := 1#32
  let v3816 : BitVec 32 := Scalar.muli v7 c1_i32_4872
  let v3817 : BitVec 32 := Scalar.addi c0_i32_4873 v3816
  v3817.toNat
def k0_dev142 (d0 : Dev nD) : Nat :=
  let c0_i32_4901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4900 : BitVec 32 := 1#32
  let v3839 : BitVec 32 := Scalar.muli v5 c1_i32_4900
  let v3840 : BitVec 32 := Scalar.addi c0_i32_4901 v3839
  v3840.toNat
def k0_dev143 (d0 : Dev nD) : Nat :=
  let c0_i32_4929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4928 : BitVec 32 := 1#32
  let v3862 : BitVec 32 := Scalar.muli v7 c1_i32_4928
  let v3863 : BitVec 32 := Scalar.addi c0_i32_4929 v3862
  v3863.toNat
def k0_dev144 (d0 : Dev nD) : Nat :=
  let c0_i32_4957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4956 : BitVec 32 := 1#32
  let v3885 : BitVec 32 := Scalar.muli v5 c1_i32_4956
  let v3886 : BitVec 32 := Scalar.addi c0_i32_4957 v3885
  v3886.toNat
def k0_dev145 (d0 : Dev nD) : Nat :=
  let c0_i32_4985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4984 : BitVec 32 := 1#32
  let v3908 : BitVec 32 := Scalar.muli v7 c1_i32_4984
  let v3909 : BitVec 32 := Scalar.addi c0_i32_4985 v3908
  v3909.toNat
def k0_dev146 (d0 : Dev nD) : Nat :=
  let c0_i32_5013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5012 : BitVec 32 := 1#32
  let v3931 : BitVec 32 := Scalar.muli v5 c1_i32_5012
  let v3932 : BitVec 32 := Scalar.addi c0_i32_5013 v3931
  v3932.toNat
def k0_dev147 (d0 : Dev nD) : Nat :=
  let c0_i32_5041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5040 : BitVec 32 := 1#32
  let v3954 : BitVec 32 := Scalar.muli v7 c1_i32_5040
  let v3955 : BitVec 32 := Scalar.addi c0_i32_5041 v3954
  v3955.toNat
def k0_dev148 (d0 : Dev nD) : Nat :=
  let c0_i32_5069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5068 : BitVec 32 := 1#32
  let v3977 : BitVec 32 := Scalar.muli v5 c1_i32_5068
  let v3978 : BitVec 32 := Scalar.addi c0_i32_5069 v3977
  v3978.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Steps.lean ====
/-
The kernel's body as a program of steps: the entry handshake, the four first sends, fourteen rounds of the
reduce-scatter, its last round, fifteen rounds of the all-gather and the four closing waits. The printed body is
one straight line of statements with every round written out; here a round is one program of its index, its
direction (`false` the ring to the right, `true` the ring to the left) and its sub-block, and `body_eq_steps`
says the two are one program.
-/
module

public import proofs.«01_k».proof.Proof.Gen.KernelIdeal
public import proofs.«01_k».proof.Proof.Gen.KernelIdeal.Points
public import Idealize.ShloMosaic.Lib.Pipeline.Kit

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-- A program of the kernel body's type. -/
abbrev TP (F : FTy → Type) [FloatOps F] := Prog (TpuEff nD τ sig (Elt F) Λ₀ .tc) PUnit

/-! ## The two directions -/

/-- The neighbour a direction sends to: the right one (`false`), the left one (`true`). -/
def dst (d : Bool) (c : Dev nD) : Dev nD :=
  match d with
  | false => ⟨k0_dev2 c, k0_dev2_lt c⟩
  | true => ⟨k0_dev1 c, k0_dev1_lt c⟩

def recvM : Bool → Memref sig .tc .vmem S2x2x128x4096 .i32
  | false => Memref.whole cc0_scratch0
  | true => Memref.whole cc0_scratch1
def sendM : Bool → Memref sig .tc .vmem S2x128x4096 .i32
  | false => Memref.whole cc0_scratch2
  | true => Memref.whole cc0_scratch3
def stgM : Bool → Memref sig .tc .vmem S2x128x4096 .f32
  | false => Memref.whole cc0_scratch4
  | true => Memref.whole cc0_scratch5
def outM : Memref sig .tc .hbm S4096x8192 .f32 := Memref.whole main_v1

def rssA : Bool → DmaSems sig S15x2
  | false => cc0_scratch6
  | true => cc0_scratch8
def rsrA : Bool → DmaSems sig S15x2
  | false => cc0_scratch7
  | true => cc0_scratch9
def agsA : Bool → DmaSems sig S15x2
  | false => cc0_scratch10
  | true => cc0_scratch12
def agrA : Bool → DmaSems sig S15x2
  | false => cc0_scratch11
  | true => cc0_scratch13
def stA : Bool → DmaSems sig S2
  | false => cc0_scratch14
  | true => cc0_scratch15
def credSem : Bool → Sem sig
  | false => (cc0_scratch16 : Sems sig S_).sem
  | true => (cc0_scratch17 : Sems sig S_).sem
/-- The runtime's barrier semaphore. -/
def barSem : Sem sig := (SemArray.scalar (sig.barrier 0 rfl) : Sems sig S_).sem

/-! ## The pieces of the buffers -/

theorem inb4 (p u : Fin 2) : ∀ a, (![p.val, u.val, 0, 0] : Fin 4 → Nat) a + S1x1x128x4096.size a ≤ S2x2x128x4096.size a := by
  revert p u; decide
theorem inb3 (u : Fin 2) : ∀ a, (![u.val, 0, 0] : Fin 3 → Nat) a + S1x128x4096.size a ≤ S2x128x4096.size a := by
  revert u; decide
theorem inbS (k : Fin 15) (u : Fin 2) : ∀ a, (![k.val, u.val] : Fin 2 → Nat) a + S1x1.size a ≤ S15x2.size a := by
  revert k u; decide
theorem inbT (u : Fin 2) : ∀ a, (![u.val] : Fin 1 → Nat) a + S1.size a ≤ S2.size a := by
  revert u; decide
def wcol : Bool → Nat
  | false => 0
  | true => 4096
theorem inbW (d : Bool) : ∀ a, (![0, wcol d] : Fin 2 → Nat) a + S256x4096.size a ≤ S256x8192.size a := by
  revert d; decide

abbrev recvR (p u : Fin 2) : Rect S2x2x128x4096 := Rect.unit (s := S2x2x128x4096) ![p.val, u.val, 0, 0] S1x1x128x4096.size (inb4 p u)
abbrev sendR (u : Fin 2) : Rect S2x128x4096 := Rect.unit (s := S2x128x4096) ![u.val, 0, 0] S1x128x4096.size (inb3 u)
abbrev wR (d : Bool) : Rect S256x8192 := Rect.unit (s := S256x8192) ![0, wcol d] S256x4096.size (inbW d)

def recvV (d : Bool) (p u : Fin 2) : Memref sig .tc .vmem S128x4096 .i32 :=
  ((recvM d).slice (recvR p u) (fun _ => rfl)).squeeze S128x4096 squeezes_S1x1x128x4096_S128x4096
def sendV (d : Bool) (u : Fin 2) : Memref sig .tc .vmem S128x4096 .i32 :=
  ((sendM d).slice (sendR u) (fun _ => rfl)).squeeze S128x4096 squeezes_S1x128x4096_S128x4096
def stgV (d : Bool) (u : Fin 2) : Memref sig .tc .vmem S128x4096 .f32 :=
  ((stgM d).slice (sendR u) (fun _ => rfl)).squeeze S128x4096 squeezes_S1x128x4096_S128x4096

def sem2 (A : DmaSems sig S15x2) (k : Fin 15) (u : Fin 2) : DmaSem sig :=
  ((A.slice (Rect.unit (s := S15x2) ![k.val, u.val] S1x1.size (inbS k u))).squeeze S_ squeezes_S1x1_S_).sem
def rss (d : Bool) (k : Fin 15) (u : Fin 2) : DmaSem sig := sem2 (rssA d) k u
def rsr (d : Bool) (k : Fin 15) (u : Fin 2) : DmaSem sig := sem2 (rsrA d) k u
def ags (d : Bool) (k : Fin 15) (u : Fin 2) : DmaSem sig := sem2 (agsA d) k u
def agr (d : Bool) (k : Fin 15) (u : Fin 2) : DmaSem sig := sem2 (agrA d) k u
def stS (d : Bool) (u : Fin 2) : DmaSem sig :=
  (((stA d).slice (Rect.unit (s := S2) ![u.val] S1.size (inbT u))).squeeze S_ squeezes_S1_S_).sem

/-! ## The addresses -/

/-- The word of the `k`-th chunk a direction works on, from the device's own: `-k` to the right, `k` to the left. -/
def kword (d : Bool) (k : Nat) : BitVec 32 :=
  match d with
  | false => BitVec.ofNat 32 (4294967296 - k)
  | true => BitVec.ofNat 32 k
/-- The word of the chunk the `t`-th transfer of the all-gather carries: chunk `t - 1`. -/
def gword (d : Bool) (t : Nat) : BitVec 32 :=
  match d, t with
  | false, 0 => 1#32
  | true, 0 => 4294967295#32
  | d, t + 1 => kword d t
def subword (u : Fin 2) : BitVec 32 := BitVec.ofNat 32 (128 * u.val)

theorem inbX (c : Dev nD) (d : Bool) (k : Fin 16) (u : Fin 2) :
    ∀ a, (k0_off1 c (kword d k.val) (subword u)) a + S128x256.size a ≤ S4096x256.size a := by
  revert c d k u; decide +kernel
theorem inbO2 (c : Dev nD) (d : Bool) (t : Fin 15) (u : Fin 2) :
    ∀ a, (k0_off2 c (gword d t.val) (subword u)) a + S128x4096.size a ≤ S4096x8192.size a := by
  revert c d t u; decide +kernel
theorem inbO3 (c : Dev nD) (d : Bool) (t : Fin 15) (u : Fin 2) :
    ∀ a, (k0_off3 c (gword d t.val) (subword u)) a + S128x4096.size a ≤ S4096x8192.size a := by
  revert c d t u; decide +kernel

abbrev xR (c : Dev nD) (d : Bool) (k : Fin 16) (u : Fin 2) : Rect S4096x256 :=
  Rect.unit (s := S4096x256) (k0_off1 c (kword d k.val) (subword u)) S128x256.size (inbX c d k u)
/-- The rectangle of the result the `t`-th transfer of the all-gather carries from device `c`. -/
def outR (c : Dev nD) (d : Bool) (t : Fin 15) (u : Fin 2) : Rect S4096x8192 :=
  match d with
  | false => Rect.unit (s := S4096x8192) (k0_off2 c (gword false t.val) (subword u)) S128x4096.size (inbO2 c false t u)
  | true => Rect.unit (s := S4096x8192) (k0_off3 c (gword true t.val) (subword u)) S128x4096.size (inbO3 c true t u)
def outV (c : Dev nD) (d : Bool) (t : Fin 15) (u : Fin 2) : Memref sig .tc .hbm S128x4096 .f32 :=
  match d with
  | false => outM.slice (Rect.unit (s := S4096x8192) (k0_off2 c (gword false t.val) (subword u)) S128x4096.size (inbO2 c false t u)) (fun _ => rfl)
  | true => outM.slice (Rect.unit (s := S4096x8192) (k0_off3 c (gword true t.val) (subword u)) S128x4096.size (inbO3 c true t u)) (fun _ => rfl)

/-! ## The arithmetic -/

/-- One device's share of a chunk: the exact product of its rows of `x` with its columns of `w`. -/
def gemm (x : Vec F S128x256 .i8) (w : Vec F S256x4096 .i8) : IVec S128x4096 32 :=
  matmulI8 IntMxuNumerics.v7x dot_S128x256_S256x4096_S128x4096_1_0_0_1_n_n (shapeCast S128x256 x shapeCasts_S128x256_S128x256)
    (shapeCast S256x4096 w shapeCasts_S256x4096_S256x4096) (constantI S128x4096 32 0#32)
def initPay (x : Vec F S128x256 .i8) (w : Vec F S256x4096 .i8) : IVec S1x128x4096 32 :=
  shapeCast S1x128x4096 (gemm x w) shapeCasts_S128x4096_S1x128x4096
def accum (r : Vec F S1x1x128x4096 .i32) (x : Vec F S128x256 .i8) (w : Vec F S256x4096 .i8) : IVec S128x4096 32 :=
  addi (shapeCast S128x4096 r shapeCasts_S1x1x128x4096_S128x4096) (gemm x w)
def accPay (r : Vec F S1x1x128x4096 .i32) (x : Vec F S128x256 .i8) (w : Vec F S256x4096 .i8) : IVec S1x128x4096 32 :=
  shapeCast S1x128x4096 (accum r x w) shapeCasts_S128x4096_S1x128x4096
/-- The finished chunk, as `f32`, times the product of the two scales. -/
def scaled (a : IVec S128x4096 32) (sx sw : Elt F .f32) : FVec F S128x4096 .f32 :=
  mulf (sitofp .f32 a) (broadcast S128x4096 (Scalar.mulf sx sw))
def stgPay (r : Vec F S1x1x128x4096 .i32) (x : Vec F S128x256 .i8) (w : Vec F S256x4096 .i8) (sx sw : Elt F .f32) :
    FVec F S1x128x4096 .f32 :=
  shapeCast S1x128x4096 (scaled (accum r x w) sx sw) shapeCasts_S128x4096_S1x128x4096

/-! ## The steps -/

section Steps

variable (sxM swM : Memref sig .tc .smem S1 .f32) (xM : Memref sig .tc .vmem S4096x256 .i8) (wM : Memref sig .tc .vmem S256x8192 .i8)
variable (c : Dev nD)

/-- Start the copy of a send buffer into slot `k % 2` of the neighbour's receive buffer. -/
def rsSend (d : Bool) (k : Fin 15) (u : Fin 2) (K : TP F) : TP F :=
  .op (.enqueueDma (sendV d u) (.remote (Dev.tc (dst d c)) (recvV d ⟨k.val % 2, Nat.mod_lt _ (by decide)⟩ u) (.dma (rss d k u))) (.dma (rsr d k u))
    (by cases d <;> exact (View.wordExact_bits rfl).reshape _ _) (by cases d <;> exact (View.wordExact_bits rfl).reshape _ _)
    (by cases d <;> exact ⟨⟨rfl, Or.inl rfl⟩, trivial⟩)) fun _ => K

/-- The first chunk: its product into the send buffer, and off. -/
def rsInit (d : Bool) (u : Fin 2) (K : TP F) : TP F :=
  .op (.load xM (xR c d 0 u).toLoadRect (View.loadsAt_vmem h_S128x256)) fun x =>
  .op (.load wM (wR d).toLoadRect (View.loadsAt_vmem h_S256x4096)) fun w =>
  .op (.load (sendM d) (sendR u).toLoadRect (View.loadsAt_vmem h_S1x128x4096)) fun _ =>
  .op (.store (sendM d) (sendR u) (initPay x w) Finset.univ (View.stores_vmem_bits_univ h_S1x128x4096 rfl) (.inl rfl)) fun _ =>
  rsSend c d 0 u K

/-- The two waits of a reduce-scatter step: its own send has left, the neighbour's has landed. -/
def rsWaits (d : Bool) (k : Fin 15) (u : Fin 2) (K : TP F) : TP F :=
  .op (.waitDma2 (rss d k u) (recvV d ⟨k.val % 2, Nat.mod_lt _ (by decide)⟩ u) (sendV d u)
    (by cases d <;> exact (View.wordExact_bits rfl).reshape _ _) (by cases d <;> exact (View.wordExact_bits rfl).reshape _ _)) fun _ =>
  .op (.waitDma2 (rsr d k u) (sendV d u) (recvV d ⟨k.val % 2, Nat.mod_lt _ (by decide)⟩ u)
    (by cases d <;> exact (View.wordExact_bits rfl).reshape _ _) (by cases d <;> exact (View.wordExact_bits rfl).reshape _ _)) fun _ =>
  K

/-- Add this device's share to the partial sum that landed. -/
def rsAcc (d : Bool) (k : Fin 15) (u : Fin 2) (K : TP F) : TP F :=
  .op (.load (recvM d) (recvR ⟨k.val % 2, Nat.mod_lt _ (by decide)⟩ u).toLoadRect (View.loadsAt_vmem h_S1x1x128x4096)) fun r =>
  .op (.load xM (xR c d k.succ u).toLoadRect (View.loadsAt_vmem h_S128x256)) fun x =>
  .op (.load wM (wR d).toLoadRect (View.loadsAt_vmem h_S256x4096)) fun w =>
  .op (.load (sendM d) (sendR u).toLoadRect (View.loadsAt_vmem h_S1x128x4096)) fun _ =>
  .op (.store (sendM d) (sendR u) (accPay r x w) Finset.univ (View.stores_vmem_bits_univ h_S1x128x4096 rfl) (.inl rfl)) fun _ =>
  K

def credWait (d : Bool) (K : TP F) : TP F := .op (.semWait (credSem d) (1#32 : BitVec 32).toInt) fun _ => K
def credSignal (d : Bool) (K : TP F) : TP F := .op (.semSignal (dst (!d) c, .tc) (credSem d) (1#32 : BitVec 32).toInt) fun _ => K

/-- Round `s` of the reduce-scatter in one direction, sub-block 0: from round 1 on a credit is awaited before the
    send. -/
def rsStep0 (d : Bool) (s : Fin 14) (K : TP F) : TP F :=
  rsWaits d s.castSucc 0 (rsAcc xM wM c d s.castSucc 0 <|
    if 1 ≤ s.val then credWait d (rsSend c d s.succ 0 K) else rsSend c d s.succ 0 K)
def rsStep1 (d : Bool) (s : Fin 14) (K : TP F) : TP F :=
  rsWaits d s.castSucc 1 (rsAcc xM wM c d s.castSucc 1 (rsSend c d s.succ 1 K))
def rsStep (s : Fin 14) (K : TP F) : TP F :=
  rsStep0 xM wM c false s <| rsStep0 xM wM c true s <| rsStep1 xM wM c false s <| rsStep1 xM wM c true s <|
    if s.val ≤ 12 then credSignal c false (credSignal c true K) else K

def rsLoop : (n s : Nat) → s + n = 14 → TP F → TP F
  | 0, _, _, K => K
  | n + 1, s, h, K => rsStep xM wM c ⟨s, by omega⟩ (rsLoop n (s + 1) (by omega) K)

/-- Start the all-gather's transfer `t` of a piece of the result. -/
def agSend (d : Bool) (t : Fin 14) (u : Fin 2) (K : TP F) : TP F :=
  .op (.enqueueDma (outV c d t.succ u) (.remote (Dev.tc (dst d c)) (outV c d t.succ u) (.dma (ags d t.succ u))) (.dma (agr d t.succ u))
    (by cases d <;> exact View.wordExact_bits rfl) (by cases d <;> exact View.wordExact_bits rfl)
    (by cases d <;> exact ⟨⟨rfl, Or.inl rfl⟩, trivial⟩)) fun _ => K

/-- The last round of the reduce-scatter: the finished piece is staged and copied into both results, the
    neighbour's and the device's own. -/
def rsLast (d : Bool) (u : Fin 2) (K : TP F) : TP F :=
  rsWaits d 14 u <|
  .op (.load (recvM d) (recvR 0 u).toLoadRect (View.loadsAt_vmem h_S1x1x128x4096)) fun r =>
  .op (.load xM (xR c d 15 u).toLoadRect (View.loadsAt_vmem h_S128x256)) fun x =>
  .op (.load wM (wR d).toLoadRect (View.loadsAt_vmem h_S256x4096)) fun w =>
  .op (.load sxM (Rect.unit (s := S1) ![0] S1.size inb_S1_S1_0).toLoadRect (View.loadsAt_rect (View.loads_smem_one rfl numel1_S1))) fun sx =>
  .op (.load swM (Rect.unit (s := S1) ![0] S1.size inb_S1_S1_0).toLoadRect (View.loadsAt_rect (View.loads_smem_one rfl numel1_S1))) fun sw =>
  .op (.load (stgM d) (sendR u).toLoadRect (View.loadsAt_vmem h_S1x128x4096)) fun _ =>
  .op (.store (stgM d) (sendR u) (stgPay r x w (sx (Shape.Idx.first (numel1_S1.symm ▸ Nat.one_pos))) (sw (Shape.Idx.first (numel1_S1.symm ▸ Nat.one_pos))))
    Finset.univ (View.stores_vmem_bits_univ h_S1x128x4096 rfl) (.inl rfl)) fun _ =>
  .op (.enqueueDma (stgV d u) (.remote (Dev.tc (dst d c)) (outV c d 0 u) (.dma (ags d 0 u))) (.dma (agr d 0 u))
    (by cases d <;> exact (View.wordExact_bits rfl).reshape _ _) (by cases d <;> exact View.wordExact_bits rfl)
    (by cases d <;> exact ⟨⟨rfl, Or.inl rfl⟩, trivial⟩)) fun _ =>
  .op (.enqueueDma (stgV d u) (.here (outV c d 0 u)) (.dma (stS d u))
    (by cases d <;> exact (View.wordExact_bits rfl).reshape _ _) (by cases d <;> exact View.wordExact_bits rfl)
    (by cases d <;> exact ⟨Or.inl rfl, trivial⟩)) fun _ =>
  K

/-- The waits on transfer 0 of the all-gather: it leaves the staging buffer. -/
def agWait0 (d : Bool) (u : Fin 2) (K : TP F) : TP F :=
  .op (.waitDma2 (ags d 0 u) (outV c d 0 u) (stgV d u)
    (by cases d <;> exact View.wordExact_bits rfl) (by cases d <;> exact (View.wordExact_bits rfl).reshape _ _)) fun _ =>
  .op (.waitDma2 (agr d 0 u) (stgV d u) (outV c d 0 u)
    (by cases d <;> exact (View.wordExact_bits rfl).reshape _ _) (by cases d <;> exact View.wordExact_bits rfl)) fun _ =>
  K
/-- The waits on a later transfer: it leaves the result itself. -/
def agWait (d : Bool) (t : Fin 15) (u : Fin 2) (K : TP F) : TP F :=
  .op (.waitDma2 (ags d t u) (outV c d t u) (outV c d t u)
    (by cases d <;> exact View.wordExact_bits rfl) (by cases d <;> exact View.wordExact_bits rfl)) fun _ =>
  .op (.waitDma2 (agr d t u) (outV c d t u) (outV c d t u)
    (by cases d <;> exact View.wordExact_bits rfl) (by cases d <;> exact View.wordExact_bits rfl)) fun _ =>
  K
def agFirst (K : TP F) : TP F :=
  agWait0 c false 0 <| agSend c false 0 0 <| agWait0 c true 0 <| agSend c true 0 0 <|
  agWait0 c false 1 <| agSend c false 0 1 <| agWait0 c true 1 <| agSend c true 0 1 K
def agStep (t : Fin 14) (h : 1 ≤ t.val) (K : TP F) : TP F :=
  agWait c false t.castSucc 0 <| agSend c false t 0 <| agWait c true t.castSucc 0 <| agSend c true t 0 <|
  agWait c false t.castSucc 1 <| agSend c false t 1 <| agWait c true t.castSucc 1 <| agSend c true t 1 K
def agLoop : (n t : Nat) → t + n = 14 → 1 ≤ t → TP F → TP F
  | 0, _, _, _, K => K
  | n + 1, t, h, h1, K => agStep c ⟨t, by omega⟩ h1 (agLoop n (t + 1) (by omega) (by omega) K)
def agLast (K : TP F) : TP F :=
  agWait c false 14 0 <| agWait c true 14 0 <| agWait c false 14 1 <| agWait c true 14 1 K

def stWait (d : Bool) (u : Fin 2) (K : TP F) : TP F :=
  .op (.waitDma2 (stS d u) (stgV d u) (outV c d 0 u)
    (by cases d <;> exact (View.wordExact_bits rfl).reshape _ _) (by cases d <;> exact View.wordExact_bits rfl)) fun _ => K

def afterBarrier : TP F :=
  rsInit xM wM c false 0 <| rsInit xM wM c false 1 <| rsInit xM wM c true 0 <| rsInit xM wM c true 1 <|
  rsLoop xM wM c 14 0 rfl <|
  rsLast sxM swM xM wM c false 0 <| rsLast sxM swM xM wM c true 0 <| rsLast sxM swM xM wM c false 1 <| rsLast sxM swM xM wM c true 1 <|
  agFirst c <| agLoop c 13 1 rfl (by decide) <| agLast c <|
  stWait c false 0 <| stWait c false 1 <| stWait c true 0 <| stWait c true 1 (.ret ⟨⟩)

end Steps

/-- The kernel's body as steps. -/
def steps (sxM swM : Memref sig .tc .smem S1 .f32) (xM : Memref sig .tc .vmem S4096x256 .i8) (wM : Memref sig .tc .vmem S256x8192 .i8) : TP F :=
  .op .deviceId fun c =>
  .op (.semSignal (dst true c, .tc) barSem (1#32 : BitVec 32).toInt) fun _ =>
  .op (.semSignal (dst false c, .tc) barSem (1#32 : BitVec 32).toInt) fun _ =>
  .op (.semWait barSem (2#32 : BitVec 32).toInt) fun _ =>
  afterBarrier sxM swM xM wM c

end Cert.RingProof

end
-- ==== Proof.Sched.lean ====
/-
The protocol of the kernel, written down once: its semaphores by name, how much each one counts and what its units
hand over, in what order each device pays what it owes, and the contents of every buffer that is passed on.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.MemrefSat
public import Idealize.ShloMosaic.Lib.Tactic

@[expose] public section

set_option maxRecDepth 4000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The semaphores by name -/

/-- The kernel's own semaphores: the reduce-scatter's and the all-gather's send and receive semaphores of direction
    `d`, transfer `k`, sub-block `u`; the local copies'; the credits'. -/
inductive Own where
  | rss (d : Bool) (k : Fin 15) (u : Fin 2)
  | rsr (d : Bool) (k : Fin 15) (u : Fin 2)
  | ags (d : Bool) (k : Fin 15) (u : Fin 2)
  | agr (d : Bool) (k : Fin 15) (u : Fin 2)
  | st (d : Bool) (u : Fin 2)
  | cred (d : Bool)
deriving DecidableEq

/-- Those and the entry barrier's. -/
abbrev Kind := Option Own

def osem : Own → SemLoc sig
  | .rss d k u => .dma (rss d k u)
  | .rsr d k u => .dma (rsr d k u)
  | .ags d k u => .dma (ags d k u)
  | .agr d k u => .dma (agr d k u)
  | .st d u => .dma (stS d u)
  | .cred d => .reg (credSem d)

def asem : Kind → SemLoc sig
  | none => .reg barSem
  | some k => osem k

/-- Which semaphore a number is, among the asynchronous copies' semaphores. -/
def ownOfNat (v : ℕ) : Option Kind :=
  if v < 4 then none else
  let k : Fin 15 := ⟨((v - 4) % 30 / 2) % 15, Nat.mod_lt _ (by decide)⟩
  let u : Fin 2 := ⟨v % 2, Nat.mod_lt _ (by decide)⟩
  match (v - 4) / 30 with
  | 0 => some (some (.rss false k u))
  | 1 => some (some (.rsr false k u))
  | 2 => some (some (.rss true k u))
  | 3 => some (some (.rsr true k u))
  | 4 => some (some (.ags false k u))
  | 5 => some (some (.agr false k u))
  | 6 => some (some (.ags true k u))
  | 7 => some (some (.agr true k u))
  | _ => if v < 246 then some (some (.st false u)) else some (some (.st true u))

def kindOf : SemLoc sig → Option Kind
  | .dma s => ownOfNat s.val
  | .reg s => if s = credSem false then some (some (.cred false)) else if s = credSem true then some (some (.cred true))
      else if s = barSem then some none else none

theorem kindOf_asem (k : Kind) : kindOf (asem k) = some k := by
  match k with
  | none => decide
  | some (.rss d k u) => revert d k u; decide
  | some (.rsr d k u) => revert d k u; decide
  | some (.ags d k u) => revert d k u; decide
  | some (.agr d k u) => revert d k u; decide
  | some (.st d u) => revert d u; decide
  | some (.cred d) => revert d; decide

theorem asem_injective : Function.Injective asem := fun a b h => by
  have := congrArg kindOf h
  rw [kindOf_asem, kindOf_asem] at this
  exact Option.some.inj this

/-- The semaphore of a kind on a device. -/
abbrev cell (c : Dev nD) (k : Kind) : GSem nD τ sig := ((c : Thread nD τ), asem k)

theorem cell_injective : Function.Injective (fun x : Dev nD × Kind => cell x.1 x.2) := by
  rintro ⟨c, k⟩ ⟨c', k'⟩ h
  have h1 : c = c' := congrArg (fun g : GSem nD τ sig => g.1.1) h
  have h2 : k = k' := asem_injective (congrArg Prod.snd h)
  rw [h1, h2]

/-! ## The ring -/

theorem dst_dst (d : Bool) (c : Dev nD) : dst d (dst (!d) c) = c := by revert d c; decide
theorem dst_dst' (d : Bool) (c : Dev nD) : dst (!d) (dst d c) = c := by revert d c; decide

/-- The neighbour a direction receives from. -/
abbrev src (d : Bool) (c : Dev nD) : Dev nD := dst (!d) c

/-- The chunk of rows a device's all-gather transfer `t` carries. -/
def gidx (c : Dev nD) (d : Bool) (t : Fin 16) : Fin 16 :=
  match d with
  | false => ⟨(c.val + 17 - t.val) % 16, Nat.mod_lt _ (by decide)⟩
  | true => ⟨(c.val + 15 + t.val) % 16, Nat.mod_lt _ (by decide)⟩
/-- The device that finishes a chunk. -/
def owner (d : Bool) (r : Fin 16) : Dev nD :=
  match d with
  | false => ⟨(r.val + 15) % 16, Nat.mod_lt _ (by decide)⟩
  | true => ⟨(r.val + 1) % 16, Nat.mod_lt _ (by decide)⟩

theorem gidx_succ (c : Dev nD) (d : Bool) (t : Fin 15) : gidx (dst d c) d t.succ = gidx c d t.castSucc := by
  revert c d t; decide
theorem owner_gidx (c : Dev nD) (d : Bool) : owner d (gidx c d 0) = c := by revert c d; decide
theorem gidx_bijective (c : Dev nD) (d : Bool) : Function.Bijective (gidx c d) := by
  rw [← Finite.injective_iff_bijective]
  revert c d; unfold Function.Injective; decide +kernel

theorem inbP (d : Bool) (r : Fin 16) (u : Fin 2) :
    ∀ a, (![256 * r.val + 128 * u.val, wcol d] : Fin 2 → Nat) a + S128x4096.size a ≤ S4096x8192.size a := by
  revert d r u; decide
/-- One piece of the result: 128 rows of a chunk, the columns of one direction. -/
abbrev pieceR (d : Bool) (r : Fin 16) (u : Fin 2) : Rect S4096x8192 :=
  Rect.unit (s := S4096x8192) ![256 * r.val + 128 * u.val, wcol d] S128x4096.size (inbP d r u)
def piece (d : Bool) (r : Fin 16) (u : Fin 2) : Memref sig .tc .hbm S128x4096 .f32 :=
  outM.slice (pieceR d r u) (fun _ => rfl)

theorem off2_eq (c : Dev nD) (t : Fin 15) (u : Fin 2) :
    k0_off2 c (gword false t.val) (subword u) = ![256 * (gidx c false t.castSucc).val + 128 * u.val, wcol false] := by
  revert c t u; decide +kernel
theorem off3_eq (c : Dev nD) (t : Fin 15) (u : Fin 2) :
    k0_off3 c (gword true t.val) (subword u) = ![256 * (gidx c true t.castSucc).val + 128 * u.val, wcol true] := by
  revert c t u; decide +kernel

theorem outM_slice_congr {o o' : Fin 2 → Nat} (h : o = o') (hb : ∀ a, o a + S128x4096.size a ≤ S4096x8192.size a)
    (hb' : ∀ a, o' a + S128x4096.size a ≤ S4096x8192.size a) :
    (outM.slice (Rect.unit (s := S4096x8192) o S128x4096.size hb) (fun _ => rfl) : Memref sig .tc .hbm S128x4096 .f32)
      = outM.slice (Rect.unit (s := S4096x8192) o' S128x4096.size hb') (fun _ => rfl) := by
  subst h; rfl

theorem outV_eq (c : Dev nD) (d : Bool) (t : Fin 15) (u : Fin 2) : outV c d t u = piece d (gidx c d t.castSucc) u := by
  cases d
  · exact outM_slice_congr (off2_eq c t u) _ _
  · exact outM_slice_congr (off3_eq c t u) _ _

/-! ## The resources -/

/-- A slot of a receive buffer: device, direction, parity, sub-block. -/
def Key : Type := Dev nD × Bool × Fin 2 × Fin 2
instance keyDecEq : DecidableEq Key := inferInstanceAs (DecidableEq (Dev nD × Bool × Fin 2 × Fin 2))
instance keyFintype : Fintype Key := inferInstanceAs (Fintype (Dev nD × Bool × Fin 2 × Fin 2))
def Key.mk (c : Dev nD) (d : Bool) (p u : Fin 2) : Key := (c, d, p, u)
abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots Key)).trans embR
abbrev ES : Emb (USlots Key) (MT nD τ sig ℕ (Elt F) ℕ UU ℕ) := (Emb.inr : Emb (USlots Key) (UB × USlots Key)).trans embR

/-! ## Contents -/

/-- What the devices' arguments hold. -/
structure Ins (F : FTy → Type) where
  sx : Dev nD → (cc0_stg0_0 : Ref sig .tc).ty.Contents (Elt F)
  sw : Dev nD → (cc0_stg1_0 : Ref sig .tc).ty.Contents (Elt F)
  x : Dev nD → (cc0_stg2_0 : Ref sig .tc).ty.Contents (Elt F)
  w : Dev nD → (cc0_stg3_0 : Ref sig .tc).ty.Contents (Elt F)

abbrev sxM : Memref sig .tc .smem S1 .f32 := Memref.whole cc0_stg0_0
abbrev swM : Memref sig .tc .smem S1 .f32 := Memref.whole cc0_stg1_0
abbrev xM : Memref sig .tc .vmem S4096x256 .i8 := Memref.whole cc0_stg2_0
abbrev wM : Memref sig .tc .vmem S256x8192 .i8 := Memref.whole cc0_stg3_0

section Contents
variable (I : Ins F)

def fin16 (k : ℕ) : Fin 16 := ⟨k % 16, Nat.mod_lt _ (by decide)⟩

def xAt (d : Bool) (u : Fin 2) (k : Fin 16) (c : Dev nD) : Vec F S128x256 .i8 :=
  xM.view.readAt (Elt F) (xR c d k u).toLoadRect (I.x c)
def wAt (d : Bool) (c : Dev nD) : Vec F S256x4096 .i8 := wM.view.readAt (Elt F) (wR d).toLoadRect (I.w c)
abbrev one0 : S1.Idx := Shape.Idx.first (numel1_S1.symm ▸ Nat.one_pos)
def sxAt (c : Dev nD) : Elt F .f32 :=
  (sxM.view.readAt (Elt F) (Rect.unit (s := S1) ![0] S1.size inb_S1_S1_0).toLoadRect (I.sx c)) one0
def swAt (c : Dev nD) : Elt F .f32 :=
  (swM.view.readAt (Elt F) (Rect.unit (s := S1) ![0] S1.size inb_S1_S1_0).toLoadRect (I.sw c)) one0

/-- A device's share of the `k`-th chunk it works on. -/
def share (d : Bool) (u : Fin 2) (k : ℕ) (c : Dev nD) : IVec S128x4096 32 := gemm (xAt I d u (fin16 k) c) (wAt I d c)

/-- The partial sum a device sends at step `k`: what came from its neighbour, plus its own share. -/
def PS (d : Bool) (u : Fin 2) : ℕ → Dev nD → IVec S128x4096 32
  | 0, c => share I d u 0 c
  | k + 1, c => addi (PS d u k (src d c)) (share I d u (k + 1) c)

/-- The finished piece of a device. -/
def FN (d : Bool) (u : Fin 2) (c : Dev nD) : FVec F S128x4096 .f32 := scaled (PS I d u 15 c) (sxAt I c) (swAt I c)
/-- A piece of the result. -/
def FP (d : Bool) (r : Fin 16) (u : Fin 2) : FVec F S128x4096 .f32 := FN I d u (owner d r)

end Contents

/-! ## What is handed over -/

abbrev par (k : ℕ) : Fin 2 := ⟨k % 2, Nat.mod_lt _ (by decide)⟩

/-- A memref at some contents. -/
def any (c : Dev nD) {sp : Space} {s : Shape} {e : EltTy} (m : Memref sig .tc sp s e) : sProp 𝕄 :=
  iprop(∃ X, owns (c : Thread nD τ) m fullShare X)
instance any_storable (c : Dev nD) {sp : Space} {s : Shape} {e : EltTy} (m : Memref sig .tc sp s e) :
    BI.Storable (upEmb : UEmb _ 𝕄) (any (F := F) c m) := by unfold any; infer_instance

def has (c : Dev nD) {sp : Space} {s : Shape} {e : EltTy} (m : Memref sig .tc sp s e) (X : s.Idx → Elt F e) : sProp 𝕄 :=
  owns (c : Thread nD τ) m fullShare X
instance has_storable (c : Dev nD) {sp : Space} {s : Shape} {e : EltTy} (m : Memref sig .tc sp s e) (X : s.Idx → Elt F e) :
    BI.Storable (upEmb : UEmb _ 𝕄) (has (F := F) c m X) := by unfold has; infer_instance

/-- How often a slot of parity `p` has been freed before step `s`. -/
def freed (p : Fin 2) (s : ℕ) : ℕ := (s + 1 - p.val) / 2

/-- A slot is known to have been freed `n` times. -/
def rel (k : Key) (n : ℕ) : sProp 𝕄 := if n = 0 then iprop(emp) else released ES k n
instance rel_persistent (k : Key) (n : ℕ) : BI.Persistent (rel (F := F) k n) := by unfold rel; split <;> infer_instance
instance rel_storable (k : Key) (n : ℕ) : BI.Storable (upEmb : UEmb _ 𝕄) (rel (F := F) k n) := by unfold rel; split <;> infer_instance

section Pay
variable (I : Ins F)

/-- What neighbour `e = dst d c` hands `c` at the entry barrier: its receive slots and the pieces of its result that `c` will
    fill. -/
def barPay (c : Dev nD) (d : Bool) : sProp 𝕄 :=
  iprop((bigSep Finset.univ fun x : Fin 2 × Fin 2 => any (dst d c) (recvV d x.1 x.2))
    ∗ bigSep Finset.univ fun x : Fin 15 × Fin 2 => any (dst d c) (piece d (gidx c d x.1.castSucc) x.2))
/-- What a credit tells: after its step `j` the neighbour has freed its slots so many times. -/
def credPay (c : Dev nD) (d : Bool) (j : ℕ) : sProp 𝕄 :=
  bigSep Finset.univ fun x : Fin 2 × Fin 2 => rel (.mk (dst d c) d x.1 x.2) (freed x.1 (j + 1))

def agsPay (c : Dev nD) (d : Bool) (k : Fin 15) (u : Fin 2) : sProp 𝕄 :=
  if k = 0 then owns (c : Thread nD τ) (stgV d u) fullShare.left (FN I d u c)
  else has c (piece d (gidx c d k.castSucc) u) (FP I d (gidx c d k.castSucc) u)

def ownPay (c : Dev nD) : Own → ℕ → sProp 𝕄
  | .rss d k u, _ => has c (sendV d u) (PS I d u k.val c)
  | .rsr d k u, _ => has c (recvV d (par k.val) u) (PS I d u k.val (src d c))
  | .ags d k u, _ => agsPay I c d k u
  | .agr d k u, _ => has c (piece d (gidx c d k.succ) u) (FP I d (gidx c d k.succ) u)
  | .st d u, _ => iprop(has c (piece d (gidx c d 0) u) (FP I d (gidx c d 0) u)
      ∗ owns (c : Thread nD τ) (stgV d u) fullShare.right (FN I d u c))
  | .cred d, j => credPay c d j

def payK (c : Dev nD) : Kind → ℕ → sProp 𝕄
  | none, j => barPay c (j == 1)
  | some k, j => ownPay I c k j

instance barPay_storable (c : Dev nD) (d : Bool) : BI.Storable (upEmb : UEmb _ 𝕄) (barPay (F := F) c d) := by
  unfold barPay; infer_instance
instance credPay_storable (c : Dev nD) (d : Bool) (j : ℕ) : BI.Storable (upEmb : UEmb _ 𝕄) (credPay (F := F) c d j) := by
  unfold credPay; infer_instance
instance agsPay_storable (c : Dev nD) (d : Bool) (k : Fin 15) (u : Fin 2) : BI.Storable (upEmb : UEmb _ 𝕄) (agsPay I c d k u) := by
  unfold agsPay; split <;> infer_instance

instance payK_storable (c : Dev nD) (k : Kind) (j : ℕ) : BI.Storable (upEmb : UEmb _ 𝕄) (payK (F := F) I c k j) := by
  match k with
  | none => exact barPay_storable c (j == 1)
  | some (.rss d k u) => exact has_storable c (sendV d u) (PS I d u k.val c)
  | some (.rsr d k u) => exact has_storable c (recvV d (par k.val) u) (PS I d u k.val (src d c))
  | some (.ags d k u) => exact agsPay_storable I c d k u
  | some (.agr d k u) => exact has_storable c (piece d (gidx c d k.succ) u) (FP I d (gidx c d k.succ) u)
  | some (.st d u) => unfold payK ownPay; infer_instance
  | some (.cred d) => exact credPay_storable c d j

instance credPay_persistent (c : Dev nD) (d : Bool) (j : ℕ) : BI.Persistent (credPay (F := F) c d j) := by
  unfold credPay; infer_instance

end Pay

/-- The bytes of one transfer. -/
def N : ℕ := (sendV false 0).view.dmaCredit
theorem N_pos : 0 < N := View.dmaCredit_pos _ (by decide)

/-- How many payments a semaphore gets, -/
def cnt : Kind → ℕ
  | none => 2
  | some (.cred _) => 13
  | some _ => 1
/-- and how much each is. -/
def amt : Kind → ℕ
  | none => 1
  | some (.cred _) => 1
  | some _ => N

theorem amt_pos (k : Kind) : 0 < amt k := by
  match k with
  | none => exact Nat.one_pos
  | some (.cred _) => exact Nat.one_pos
  | some (.rss _ _ _) => exact N_pos
  | some (.rsr _ _ _) => exact N_pos
  | some (.ags _ _ _) => exact N_pos
  | some (.agr _ _ _) => exact N_pos
  | some (.st _ _) => exact N_pos

/-- The schedule: one round. -/
def Rd (I : Ins F) : Rounds.Schedule (GSem nD τ sig) ℕ 𝕄 where
  duties g r := if r = 0 ∧ g.1.2 = .tc then (match kindOf g.2 with | none => ∅ | some k => Finset.range (cnt k)) else ∅
  unitless _ := False
  amount g _ _ := match kindOf g.2 with | none => 1 | some k => amt k
  payload g _ j := match kindOf g.2 with | none => iprop(emp) | some k => payK I g.1.1 k j
  amount_pos g _ _ _ := by
    cases h : kindOf g.2 with
    | none => exact Nat.one_pos
    | some k => exact amt_pos k

instance Rd_payload_storable (I : Ins F) (g : GSem nD τ sig) (r : ℕ) (j : ℕ) :
    BI.Storable (upEmb : UEmb _ 𝕄) ((Rd (F := F) I).payload g r j) := by
  show BI.Storable upEmb (match kindOf g.2 with | none => iprop(emp) | some k => payK I g.1.1 k j)
  split <;> infer_instance

section RdFacts
variable (I : Ins F) (c : Dev nD) (k : Kind)

theorem duties_cell : (Rd I).duties (cell c k) 0 = Finset.range (cnt k) := by
  dsimp only [Rd]; rw [if_pos ⟨rfl, rfl⟩, kindOf_asem]
theorem duties_later (g : GSem nD τ sig) : ∀ r, 1 ≤ r → (Rd I).duties g r = ∅ :=
  fun r hr => by dsimp only [Rd]; rw [if_neg fun h => by omega]
theorem amount_cell (j : ℕ) : (Rd I).amount (cell c k) 0 j = amt k := by dsimp only [Rd]; rw [kindOf_asem]
theorem payload_cell (j : ℕ) : (Rd I).payload (cell c k) 0 j = payK I c k j := by dsimp only [Rd]; rw [kindOf_asem]
theorem expect_cell : (Rd I).expect (cell c k) 0 = cnt k * amt k := by
  unfold Schedule.expect Schedule.amountOf
  rw [duties_cell, Finset.sum_congr rfl fun d _ => amount_cell I c k d, Finset.sum_const, Finset.card_range, smul_eq_mul]

end RdFacts

/-! ## Levels and what is owed -/

def klev : Kind → ℕ → ℕ
  | none, _ => 1
  | some (.rsr _ k _), _ => 2 * k.val + 2
  | some (.cred _), j => 2 * j + 3
  | some (.agr _ k _), _ => 40 + k.val
  | some _, _ => 0

def L (g : GSem nD τ sig) : Finset ℕ := if g.1.2 = .tc then Finset.range 13 else ∅
def lv (g : GSem nD τ sig) (ι : ℕ) : ℕ := match kindOf g.2 with | none => 0 | some k => klev k ι

theorem L_of_ne (g : GSem nD τ sig) (h : g.1.2 ≠ .tc) : L g = ∅ := if_neg h
theorem L_tc (c : Dev nD) (sm : SemLoc sig) : L ((c : Thread nD τ), sm) = Finset.range 13 := if_pos rfl
theorem lv_cell (c : Dev nD) (k : Kind) (ι : ℕ) : lv (cell c k) ι = klev k ι := by unfold lv; rw [kindOf_asem]

/-- Something a device owes: to which neighbour's semaphore, at which index. -/
structure Ob where
  dir : Bool
  kind : Kind
  idx : ℕ

def Ob.tally (c : Dev nD) (o : Ob) : CellTallies nD τ sig ℕ := tallyAt (cell (dst o.dir c) o.kind) o.idx (amt o.kind)

def lsum (c : Dev nD) : List Ob → CellTallies nD τ sig ℕ
  | [] => 0
  | o :: l => lsum c l + o.tally c

theorem lsum_pos {c : Dev nD} {l : List Ob} {g : GSem nD τ sig} {ι : ℕ} (h : 0 < lsum c l g ι) :
    ∃ o ∈ l, g = cell (dst o.dir c) o.kind ∧ ι = o.idx := by
  induction l with
  | nil => exact absurd h (Nat.lt_irrefl 0)
  | cons o l ih =>
    unfold lsum at h
    rw [Pi.add_apply, Finsupp.add_apply] at h
    by_cases h' : 0 < lsum c l g ι
    · obtain ⟨o', ho', hh⟩ := ih h'
      exact ⟨o', List.mem_cons_of_mem _ ho', hh⟩
    · unfold Ob.tally at h
      rw [tallyAt_apply] at h
      by_cases hg : g = cell (dst o.dir c) o.kind ∧ ι = o.idx
      · exact ⟨o, List.mem_cons_self, hg⟩
      · rw [if_neg hg] at h; omega

/-- Everything in the list is owed at a level above `b`. -/
def Above (b : ℕ) (l : List Ob) : Prop := ∀ o ∈ l, o.idx < 13 ∧ b < klev o.kind o.idx

theorem Above.tail {b : ℕ} {o : Ob} {l : List Ob} (h : Above b (o :: l)) : Above b l := fun o' ho' => h o' (List.mem_cons_of_mem _ ho')
theorem Above.mono {b b' : ℕ} {l : List Ob} (h : Above b l) (hb : b' ≤ b) : Above b' l := fun o ho => ⟨(h o ho).1, lt_of_le_of_lt hb (h o ho).2⟩
theorem Above.cons {b : ℕ} {o : Ob} {l : List Ob} (h1 : o.idx < 13 ∧ b < klev o.kind o.idx) (h : Above b l) : Above b (o :: l) :=
  fun o' ho' => by
    rcases List.mem_cons.mp ho' with rfl | h'
    · exact h1
    · exact h o' h'
theorem Above.nil {b : ℕ} : Above b [] := fun o ho => absurd ho List.not_mem_nil

/-- A wait below everything owed is allowed. -/
theorem mayWait_of_above (c : Dev nD) (sm : SemLoc sig) (ι b : ℕ) (l : List Ob) (hι : ι < 13) (hlv : lv ((c : Thread nD τ), sm) ι ≤ b)
    (h : Above b l) : (levAts L lv : sProp 𝕄) ⊢ MayWait (c : Thread nD τ) sm ι (lsum c l) :=
  MayOwe.of_cut (L := L) (lev := lv) b (fun p hp => by rw [Finset.mem_singleton.mp hp, L_tc]; exact Finset.mem_range.mpr hι)
    (fun g u hg => by
      obtain ⟨o, ho, rfl, rfl⟩ := lsum_pos hg
      rw [L_tc]; exact Finset.mem_range.mpr (h o ho).1)
    (fun p hp => by rw [Finset.mem_singleton.mp hp]; exact hlv)
    (fun g u hg => by
      obtain ⟨o, ho, rfl, rfl⟩ := lsum_pos hg
      rw [lv_cell]; exact (h o ho).2)

def oRsr (d : Bool) (k : Fin 15) (u : Fin 2) : Ob := ⟨d, some (.rsr d k u), 0⟩
def oAgr (d : Bool) (k : Fin 15) (u : Fin 2) : Ob := ⟨d, some (.agr d k u), 0⟩
def oCred (d : Bool) (j : ℕ) : Ob := ⟨!d, some (.cred d), j⟩
def oBar (d : Bool) : Ob := ⟨!d, none, 0⟩

/-- Owed from all-gather transfer `k` on, in order, before what is in `l`. -/
def four (f : Bool → Fin 2 → Ob) (l : List Ob) : List Ob := f false 0 :: f true 0 :: f false 1 :: f true 1 :: l
def owedAg : (n t : ℕ) → t + n = 14 → List Ob
  | 0, _, _ => []
  | n + 1, t, h => four (fun d u => oAgr d (Fin.succ (⟨t, by omega⟩ : Fin 14)) u) (owedAg n (t + 1) (by omega))
def owedAg0 : List Ob := four (fun d u => oAgr d 0 u) (owedAg 14 0 rfl)
def owedRs : (n s : ℕ) → s + n = 14 → List Ob
  | 0, _, _ => owedAg0
  | n + 1, s, h => four (fun d u => oRsr d (Fin.succ (⟨s, by omega⟩ : Fin 14)) u)
      (if s ≤ 12 then oCred false s :: oCred true s :: owedRs n (s + 1) (by omega) else owedRs n (s + 1) (by omega))
def owedRs0 : List Ob :=
  oRsr false 0 0 :: oRsr false 0 1 :: oRsr true 0 0 :: oRsr true 0 1 :: owedRs 14 0 rfl
/-- Everything a device owes at the start. -/
def owed : List Ob := oBar false :: oBar true :: owedRs0

theorem Above.four {b : ℕ} {f : Bool → Fin 2 → Ob} {l : List Ob} (h1 : ∀ d u, (f d u).idx < 13 ∧ b < klev (f d u).kind (f d u).idx)
    (h : Above b l) : Above b (four f l) :=
  .cons (h1 _ _) (.cons (h1 _ _) (.cons (h1 _ _) (.cons (h1 _ _) h)))

theorem above_ag (n t : ℕ) (h : t + n = 14) (b : ℕ) (hb : b ≤ 40 + t) : Above b (owedAg n t h) := by
  induction n generalizing t with
  | zero => exact .nil
  | succ n ih =>
    unfold owedAg
    exact .four (fun d u => ⟨Nat.succ_pos 12, show b < 40 + (t + 1) by omega⟩) (ih (t + 1) (by omega) (by omega))

theorem above_ag0 (b : ℕ) (hb : b < 40) : Above b owedAg0 :=
  .four (fun d u => ⟨Nat.succ_pos 12, show b < 40 + 0 from hb⟩) (above_ag _ _ _ _ (by omega))

theorem above_rs (n s : ℕ) (h : s + n = 14) : Above (2 * s + 2) (owedRs n s h) := by
  induction n generalizing s with
  | zero => exact above_ag0 _ (by omega)
  | succ n ih =>
    have ih' := (ih (s + 1) (by omega)).mono (b' := 2 * s + 2) (by omega)
    unfold owedRs
    refine .four (fun d u => ⟨Nat.succ_pos 12, show 2 * s + 2 < 2 * (s + 1) + 2 by omega⟩) ?_
    split
    · exact .cons ⟨show s < 13 by omega, show 2 * s + 2 < 2 * s + 3 by omega⟩ (.cons ⟨show s < 13 by omega, show 2 * s + 2 < 2 * s + 3 by omega⟩ ih')
    · exact ih'

theorem above_rs0 : Above 1 owedRs0 :=
  .cons ⟨by decide, by decide⟩ (.cons ⟨by decide, by decide⟩ (.cons ⟨by decide, by decide⟩ (.cons ⟨by decide, by decide⟩ ((above_rs 14 0 rfl).mono (by decide)))))
theorem above_all : Above 0 owed :=
  .cons ⟨by decide, by decide⟩ (.cons ⟨by decide, by decide⟩ (above_rs0.mono (by decide)))

end Cert.RingProof

end
-- ==== Proof.Rules.lean ====
/-
One rule for each thing the kernel does with its semaphores: starting a copy to a neighbour, starting a local copy,
waiting for a copy, granting a credit, taking one.
-/
module

public import proofs.«01_k».proof.Proof.Sched

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-! ## The semaphores' names as a finite type -/

abbrev Ix4 : Type := Bool × Fin 15 × Fin 2
abbrev OwnSum : Type := ((Ix4 ⊕ Ix4) ⊕ (Ix4 ⊕ Ix4)) ⊕ ((Bool × Fin 2) ⊕ Bool)

def ownEquiv : OwnSum ≃ Own where
  toFun
    | .inl (.inl (.inl x)) => .rss x.1 x.2.1 x.2.2
    | .inl (.inl (.inr x)) => .rsr x.1 x.2.1 x.2.2
    | .inl (.inr (.inl x)) => .ags x.1 x.2.1 x.2.2
    | .inl (.inr (.inr x)) => .agr x.1 x.2.1 x.2.2
    | .inr (.inl x) => .st x.1 x.2
    | .inr (.inr d) => .cred d
  invFun
    | .rss d k u => .inl (.inl (.inl (d, k, u)))
    | .rsr d k u => .inl (.inl (.inr (d, k, u)))
    | .ags d k u => .inl (.inr (.inl (d, k, u)))
    | .agr d k u => .inl (.inr (.inr (d, k, u)))
    | .st d u => .inr (.inl (d, u))
    | .cred d => .inr (.inr d)
  left_inv x := by rcases x with ((⟨_, _, _⟩ | ⟨_, _, _⟩) | (⟨_, _, _⟩ | ⟨_, _, _⟩)) | (⟨_, _⟩ | _) <;> rfl
  right_inv k := by cases k <;> rfl

instance : Fintype Own := Fintype.ofEquiv OwnSum ownEquiv

/-! ## What every device knows -/

section Recs
variable (I : Ins F) (κ : Dev nD × Kind → ℕ) (ν : Key → ℕ)

/-- The slot of a key. -/
abbrev slotAny (k : Key) : sProp 𝕄 := any k.1 (recvV k.2.1 k.2.2.1 k.2.2.2)

/-- The levels of all indices. -/
def levs : sProp 𝕄 := levAts L lv
instance levs_persistent : BI.Persistent (levs (F := F)) := by unfold levs; infer_instance

/-- The invariants of all semaphores and of all receive slots, that every semaphore is at its one round, the levels. -/
def recs : sProp 𝕄 :=
  iprop((bigSep Finset.univ fun x : Dev nD × Kind => cellInv ER (Rd I) (κ x) (cell x.1 x.2))
    ∗ (bigSep Finset.univ fun x : Dev nD × Kind => reached ER (cell x.1 x.2) 0)
    ∗ (bigSep Finset.univ fun k : Key => slotInv ES (ν k) k (slotAny k))
    ∗ levs (F := F))

instance recs_persistent : BI.Persistent (recs I κ ν) := by unfold recs; infer_instance

theorem recs_inv (c : Dev nD) (k : Kind) : recs I κ ν ⊢ cellInv ER (Rd I) (κ (c, k)) (cell c k) := by
  unfold recs; iintro ⟨H, -⟩
  iapply (show (bigSep Finset.univ fun x : Dev nD × Kind => (cellInv ER (Rd I) (κ x) (cell x.1 x.2) : sProp 𝕄)) ⊢ cellInv ER (Rd I) (κ (c, k)) (cell c k) from
    bigSep_elim (Finset.mem_univ (c, k))); iexact H
theorem recs_reached (c : Dev nD) (k : Kind) : recs I κ ν ⊢ reached ER (cell c k) 0 := by
  unfold recs; iintro ⟨-, H, -⟩
  iapply (show (bigSep Finset.univ fun x : Dev nD × Kind => (reached ER (cell x.1 x.2) 0 : sProp 𝕄)) ⊢ reached ER (cell c k) 0 from
    bigSep_elim (Finset.mem_univ (c, k))); iexact H
theorem recs_slot (k : Key) : recs I κ ν ⊢ slotInv ES (ν k) k (slotAny k) := by
  unfold recs; iintro ⟨-, -, H, -⟩
  iapply (show (bigSep Finset.univ fun k : Key => (slotInv ES (ν k) k (slotAny k) : sProp 𝕄)) ⊢ slotInv ES (ν k) k (slotAny k) from
    bigSep_elim (Finset.mem_univ k)); iexact H
theorem recs_lev : recs I κ ν ⊢ (levs (F := F)) := by
  unfold recs; iintro ⟨-, -, -, H⟩; iexact H

end Recs

/-- What device `c` still owes. -/
def O (c : Dev nD) (l : List Ob) : sProp 𝕄 := iprop(∃ W, owes (c : Thread nD τ) (lsum c l) W)

abbrev WP (c : Dev nD) (p : TP F) (Q : PUnit → sProp 𝕄) : sProp 𝕄 :=
  wp frame (wpE (defs₀ (F := F)) 𝒱₀ (c : Thread nD τ) none) Set.univ p Q

theorem mayWait_of_above' (c : Dev nD) (sm : SemLoc sig) (ι b : ℕ) (l : List Ob) (hι : ι < 13) (hlv : lv ((c : Thread nD τ), sm) ι ≤ b)
    (h : Above b l) : (levs (F := F)) ⊢ MayWait (c : Thread nD τ) sm ι (lsum c l) := by
  unfold levs; exact mayWait_of_above c sm ι b l hι hlv h

section Rules
variable (I : Ins F) (κ : Dev nD × Kind → ℕ) (ν : Key → ℕ)

/-- Kinds completed by one transfer. -/
def IsDma (k : Own) : Prop := cnt (some k) = 1 ∧ amt (some k) = N

/-- A wait for a transfer: its payload comes back and the semaphore is done with. -/
theorem wp_waitDma (c : Dev nD) (k : Own) (hk : IsDma k) (sm : DmaSem sig) (hsm : asem (some k) = .dma sm)
    {sp sp' : Space} {s : Shape} {e : EltTy} {a : Memref sig .tc sp s e} {b : Memref sig .tc sp' s e}
    {h1 : a.view.WordExact} {h2 : b.view.WordExact} (hN : b.view.dmaCredit = N)
    {K : PUnit → TP F} {Q : PUnit → sProp 𝕄} (l : List Ob) (v : ℕ) (hv : klev (some k) 0 ≤ v) (hl : Above v l) :
    iprop(recs I κ ν ∗ cred (tallyAt (cell c (some k)) 0 N) ∗ atPos ER (cell c (some k)) 0 ∅ 0 ∗ O c l)
      ⊢ iprop(((semVal (cell c (some k)) 0 ∗ ownPay I c k 0 ∗ O c l) -∗ WP c (K ⟨⟩) Q)
        -∗ WP c (.op (.waitDma2 sm a b h1 h2) K) Q) := by
  have hcell : cell c (some k) = ((c : Thread nD τ), .dma sm) := congrArg (Prod.mk _) hsm
  have hexp := expect_cell I c (some k)
  rw [hk.1, hk.2, Nat.one_mul, hcell] at hexp
  have hdut := duties_cell I c (some k)
  rw [hk.1, hcell] at hdut
  have hpay := payload_cell I c (some k) 0
  rw [hcell] at hpay
  have hlev := lv_cell c (some k) 0
  rw [hcell] at hlev
  iintro ⟨#HR, Hc, Hat, HO⟩ Hk
  ihave HI := (recs_inv I κ ν c (some k)) $$ HR
  rw [hcell]
  icases HI with #HI
  unfold O
  icases HO with ⟨%W, HO⟩
  iapply (Rounds.wp_wait_rest_token 𝒱₀ ER (Rd I) (c : Thread nD τ) none (κ := κ (c, some k))
      (wpE_waitDma2_eq 𝒱₀ (c : Thread nD τ) none Set.univ) (Set.mem_univ _) 0 (O := lsum c l) (W := W) (R := 0) (m := 0) (T := ∅)
      (by rw [Nat.zero_add, hexp]; exact hN)) $$ [Hc HO Hat]
  · isplitr; · iexact HI
    isplitl [Hc]; · rw [show b.view.dmaCredit = N from hN]; iexact Hc
    isplitl [HO]; · iexact HO
    isplitr
    · iapply ((recs_lev I κ ν).trans (mayWait_of_above' c (.dma sm) 0 v l (by decide) (by rw [hlev]; exact hv) hl)); iexact HR
    iexact Hat
  iintro ⟨HO, Hat, -, Hpay⟩
  imod (Rounds.cell_close ER (Rd I) (Set.mem_univ (κ (c, some k))) (fun h => h) (R := 0 + 1) (duties_later I _)) $$ [Hat] with Hz
  · isplitr; · iexact HI
    iexact Hat
  iapply Hk
  isplitl [Hz]; · iexact Hz
  isplitl [Hpay]
  · ihave H := (Entails.of_eq (show bigSep ((Rd I).duties ((c : Thread nD τ), .dma sm) 0 \ ∅) (fun d => (Rd I).payload ((c : Thread nD τ), .dma sm) 0 d)
        = ownPay I c k 0 from by rw [hdut, Finset.sdiff_empty, Finset.range_one, bigSep_singleton, hpay]; rfl)) $$ Hpay
    iexact H
  iexists _; iexact HO

/-- Starting a copy to a neighbour. -/
theorem wp_send (c n : Dev nD) (kS kR : Own) (hS : IsDma kS) (hR : IsDma kR) (sS sR : DmaSem sig) (hsS : asem (some kS) = .dma sS)
    (hsR : asem (some kR) = .dma sR) (d : Bool) (hn : n = dst d c)
    {sp sp' : Space} {s : Shape} {e : EltTy} {a : Memref sig .tc sp s e} {b : Memref sig .tc sp' s e}
    {hsc : (b : Memref sig (Dev.tc n : Thread nD τ).2.kind sp' s e).view.ref.isScScratch = false}
    {h1 : a.view.WordExact} {h2 : b.view.WordExact} {h3 : DmaTarget.Typed sp (.dma sR) (.remote (Dev.tc n : Thread nD τ) b (.dma sS) hsc)}
    (hN : b.view.dmaCredit = N) (q : PosShare TreeShare) (X : s.Idx → Elt F e)
    (hpS : (owns (c : Thread nD τ) a q X : sProp 𝕄) ⊢ ownPay I c kS 0)
    (hpR : (has (dst d c) b X : sProp 𝕄) ⊢ ownPay I (dst d c) kR 0)
    {K : PUnit → TP F} {Q : PUnit → sProp 𝕄} (l : List Ob) :
    iprop(recs I κ ν ∗ owns (c : Thread nD τ) a q X ∗ any (dst d c) b
        ∗ dutyTok ER (cell c (some kS)) 0 0 ∗ dutyTok ER (cell (dst d c) (some kR)) 0 0 ∗ O c (⟨d, some kR, 0⟩ :: l))
      ⊢ iprop(((cred (tallyAt (cell c (some kS)) 0 N) ∗ O c l) -∗ WP c (K ⟨⟩) Q)
        -∗ WP c (.op (.enqueueDma a (.remote (Dev.tc n : Thread nD τ) b (.dma sS) hsc) (.dma sR) h1 h2 h3) K) Q) := by
  subst hn
  have hcS : cell c (some kS) = ((c : Thread nD τ), .dma sS) := congrArg (Prod.mk _) hsS
  have hcR : cell (dst d c) (some kR) = ((dst d c : Thread nD τ), .dma sR) := congrArg (Prod.mk _) hsR
  have hdS := duties_cell I c (some kS)
  have hdR := duties_cell I (dst d c) (some kR)
  have haS := amount_cell I c (some kS) 0
  have haR := amount_cell I (dst d c) (some kR) 0
  have hpyS := payload_cell I c (some kS) 0
  have hpyR := payload_cell I (dst d c) (some kR) 0
  rw [hS.1, hcS] at hdS
  rw [hR.1, hcR] at hdR
  rw [hS.2, hcS] at haS
  rw [hR.2, hcR] at haR
  rw [hcS] at hpyS
  rw [hcR] at hpyR
  have hO : lsum c (⟨d, some kR, 0⟩ :: l) = lsum c l + tallyAt ((dst d c : Thread nD τ), .dma sR) 0 N := by
    show lsum c l + Ob.tally c _ = _
    unfold Ob.tally
    rw [hcR, hR.2]
  iintro ⟨#HR, Ha, Hb, HtS, HtR, HO⟩ Hk
  ihave HIS := (recs_inv I κ ν c (some kS)) $$ HR
  ihave HIR := (recs_inv I κ ν (dst d c) (some kR)) $$ HR
  ihave HrS := (recs_reached I κ ν c (some kS)) $$ HR
  ihave HrR := (recs_reached I κ ν (dst d c) (some kR)) $$ HR
  rw [hcS, hcR]
  unfold O
  icases HO with ⟨%W, HO⟩
  rw [hO]
  ihave Ha := (show (owns (c : Thread nD τ) a q X : sProp 𝕄) ⊢ iprop(∃ f, ⌜a.view.read (Elt F) f = X⌝ ∗ (a.view.loc (c : Thread nD τ) ↦[a.view.set]{q} f)) from .rfl) $$ Ha
  icases Ha with ⟨%fs, %hfs, Ha⟩
  ihave Hb := (show (any (dst d c) b : sProp 𝕄) ⊢ iprop(∃ X, ∃ f, ⌜b.view.read (Elt F) f = X⌝ ∗ (b.view.loc (dst d c : Thread nD τ) ↦[b.view.set]{fullShare} f)) from .rfl) $$ Hb
  icases Hb with ⟨%Y, %fd, -, Hb⟩
  iapply (Rounds.wp_send_pointsTo 𝒱₀ ER (Rd I) (c : Thread nD τ) none (κ₁ := κ (c, some kS)) (κ₂ := κ (dst d c, some kR))
    (r₁ := 0) (r₂ := 0) (d₁ := 0) (d₂ := 0) (fs := fs) (fd := fd) (q := q) (c' := (dst d c : Thread nD τ))
    (by rw [hdS]; exact Finset.mem_range.mpr Nat.one_pos) (by rw [hdR]; exact Finset.mem_range.mpr Nat.one_pos)
    0 0 N (show b.view.amount (.dma sR) = N from hN) haS haR (lsum c l) rfl (W := W)
    (by
      rw [hpyS]
      refine BIBase.Entails.trans ?_ hpS
      unfold owns
      iintro H; iexists fs
      isplitr; · ipureintro; exact hfs
      iexact H)
    (by
      rw [hpyR]
      refine BIBase.Entails.trans ?_ hpR
      unfold has owns
      iintro H; iexists _
      isplitr
      rotate_left
      · iexact H
      ipureintro
      rw [View.read_write_univ]; exact hfs)) $$ [HIS HIR Ha Hb HO HtS HrS HtR HrR]
  · isplitl [HIS]; · iexact HIS
    isplitl [HIR]; · iexact HIR
    isplitl [Ha]; · iexact Ha
    isplitl [Hb]; · iexact Hb
    isplitl [HO]; · iexact HO
    isplitl [HtS]; · iexact HtS
    isplitl [HrS]; · iexact HrS
    isplitl [HtR] <;> iassumption
  iintro ⟨Hc, HO⟩
  iapply Hk
  isplitl [Hc]; · iexact Hc
  iexists W; iexact HO

/-- Starting a copy on the device itself. -/
theorem wp_copy (c : Dev nD) (k : Own) (hk : IsDma k) (sm : DmaSem sig) (hsm : asem (some k) = .dma sm)
    {sp sp' : Space} {s : Shape} {e : EltTy} {a : Memref sig .tc sp s e} {b : Memref sig .tc sp' s e}
    {h1 : a.view.WordExact} {h2 : b.view.WordExact} {h3 : DmaTarget.Typed (nD := nD) (τ := τ) (sig := sig) (p := .tc) sp (.dma sm) (.here b)}
    (hN : b.view.dmaCredit = N) (q : PosShare TreeShare) (X : s.Idx → Elt F e)
    (hp : iprop(has c b X ∗ owns (c : Thread nD τ) a q X : sProp 𝕄) ⊢ ownPay I c k 0)
    {K : PUnit → TP F} {Q : PUnit → sProp 𝕄} :
    iprop(recs I κ ν ∗ owns (c : Thread nD τ) a q X ∗ any c b ∗ dutyTok ER (cell c (some k)) 0 0)
      ⊢ iprop((cred (tallyAt (cell c (some k)) 0 N) -∗ WP c (K ⟨⟩) Q)
        -∗ WP c (.op (.enqueueDma a (.here b) (.dma sm) h1 h2 h3) K) Q) := by
  have hcS : cell c (some k) = ((c : Thread nD τ), .dma sm) := congrArg (Prod.mk _) hsm
  have hdS := duties_cell I c (some k)
  have haS := amount_cell I c (some k) 0
  have hpyS := payload_cell I c (some k) 0
  rw [hk.1, hcS] at hdS
  rw [hk.2, hcS] at haS
  rw [hcS] at hpyS
  iintro ⟨#HR, Ha, Hb, HtS⟩ Hk
  ihave HIS := (recs_inv I κ ν c (some k)) $$ HR
  ihave HrS := (recs_reached I κ ν c (some k)) $$ HR
  rw [hcS]
  ihave Ha := (show (owns (c : Thread nD τ) a q X : sProp 𝕄) ⊢ iprop(∃ f, ⌜a.view.read (Elt F) f = X⌝ ∗ (a.view.loc (c : Thread nD τ) ↦[a.view.set]{q} f)) from .rfl) $$ Ha
  icases Ha with ⟨%fs, %hfs, Ha⟩
  ihave Hb := (show (any c b : sProp 𝕄) ⊢ iprop(∃ X, ∃ f, ⌜b.view.read (Elt F) f = X⌝ ∗ (b.view.loc (c : Thread nD τ) ↦[b.view.set]{fullShare} f)) from .rfl) $$ Hb
  icases Hb with ⟨%Y, %fd, -, Hb⟩
  iapply (Rounds.wp_copy_pointsTo 𝒱₀ ER (Rd I) (c : Thread nD τ) none (κ := κ (c, some k))
    (r := 0) (d := 0) (fs := fs) (fd := fd) (q := q)
    (by rw [hdS]; exact Finset.mem_range.mpr Nat.one_pos) 0 N (show b.view.amount (.dma sm) = N from hN) haS
    (by
      rw [hpyS]
      refine BIBase.Entails.trans ?_ hp
      unfold has owns
      iintro ⟨H1, H2⟩
      isplitl [H1]
      · iexists _
        isplitr
        rotate_left
        · iexact H1
        ipureintro
        rw [View.read_write_univ]; exact hfs
      iexists fs
      isplitr; · ipureintro; exact hfs
      iexact H2)) $$ [HIS Ha Hb HtS HrS]
  · isplitl [HIS]; · iexact HIS
    isplitl [Ha]; · iexact Ha
    isplitl [Hb]; · iexact Hb
    isplitl [HtS] <;> iassumption
  iexact Hk

end Rules

end Cert.RingProof

end
-- ==== Proof.Credits.lean ====
/-
The rules of the counting semaphores: the entry barrier, and the credits a device grants the neighbour that fills
its receive slots.
-/
module

public import proofs.«01_k».proof.Proof.Rules

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Ins F) (κ : Dev nD × Kind → ℕ) (ν : Key → ℕ)

/-- Raising a neighbour's counting semaphore by one. -/
theorem wp_sig (c : Dev nD) (d : Bool) (k : Kind) (sm : Sem sig) (hsm : asem k = .reg sm) (j : ℕ) (hj : j < cnt k) (ha : amt k = 1) (i : ℕ)
    {K : PUnit → TP F} {Q : PUnit → sProp 𝕄} (l : List Ob) :
    iprop(recs I κ ν ∗ dutyTok ER (cell (dst d c) k) 0 j ∗ payK I (dst d c) k j ∗ O c (⟨d, k, i⟩ :: l))
      ⊢ iprop((O c l -∗ WP c (K ⟨⟩) Q) -∗ WP c (.op (.semSignal (dst d c, .tc) sm (1#32 : BitVec 32).toInt) K) Q) := by
  have hcell : cell (dst d c) k = ((dst d c : Thread nD τ), .reg sm) := congrArg (Prod.mk _) hsm
  have hdut := duties_cell I (dst d c) k
  rw [hcell] at hdut
  have hamt := amount_cell I (dst d c) k j
  rw [ha, hcell] at hamt
  have hpay := payload_cell I (dst d c) k j
  rw [hcell] at hpay
  have hO : lsum c (⟨d, k, i⟩ :: l) = lsum c l + tallyAt ((dst d c : Thread nD τ), .reg sm) i 1 := by
    show lsum c l + Ob.tally c _ = _
    unfold Ob.tally
    rw [hcell, ha]
  iintro ⟨#HR, Ht, Hp, HO⟩ Hk
  ihave HI := (recs_inv I κ ν (dst d c) k) $$ HR
  ihave Hr := (recs_reached I κ ν (dst d c) k) $$ HR
  unfold O
  icases HO with ⟨%W, HO⟩
  ihave Hp := (Entails.of_eq hpay.symm) $$ Hp
  rw [hcell]
  rw [hO]
  iapply (Rounds.wp_signal 𝒱₀ ER (Rd I) (c : Thread nD τ) none (dst := (dst d c : Thread nD τ)) (κ := κ (dst d c, k)) (d := j)
      (by rw [hdut]; exact Finset.mem_range.mpr hj) (hamt.trans (by decide)) i (lsum c l) rfl) $$ [HI HO Ht Hp Hr]
  · isplitl [HI]; · iexact HI
    isplitl [HO]; · iexact HO
    isplitl [Ht]; · iexact Ht
    isplitl [Hp] <;> iassumption
  iintro HO
  iapply Hk
  iexists W; iexact HO

/-- The wait of the entry barrier: both neighbours have handed over what this device will fill. -/
theorem wp_barWait (c : Dev nD) {K : PUnit → TP F} {Q : PUnit → sProp 𝕄} (l : List Ob) (hl : Above 1 l) :
    iprop(recs I κ ν ∗ cred (tallyAt (cell c none) 0 2) ∗ atPos ER (cell c none) 0 ∅ 0 ∗ O c l)
      ⊢ iprop(((semVal (cell c none) 0 ∗ barPay c false ∗ barPay c true ∗ O c l) -∗ WP c (K ⟨⟩) Q)
        -∗ WP c (.op (.semWait barSem (2#32 : BitVec 32).toInt) K) Q) := by
  have hexp := expect_cell I c none
  have hdut := duties_cell I c none
  have hpay0 := payload_cell I c none 0
  have hpay1 := payload_cell I c none 1
  have hlev := lv_cell c none 0
  iintro ⟨#HR, Hc, Hat, HO⟩ Hk
  ihave HI := (recs_inv I κ ν c none) $$ HR
  icases HI with #HI
  unfold O
  icases HO with ⟨%W, HO⟩
  iapply (Rounds.wp_wait_rest_token 𝒱₀ ER (Rd I) (c : Thread nD τ) none (κ := κ (c, none))
      (wpE_semWait_eq 𝒱₀ (c : Thread nD τ) none Set.univ) (Set.mem_univ _) 0 (O := lsum c l) (W := W) (R := 0) (m := 0) (T := ∅)
      (by rw [Nat.zero_add]; refine Eq.trans ?_ hexp.symm; decide)) $$ [Hc HO Hat]
  · isplitr; · iexact HI
    isplitl [Hc]; · iexact Hc
    isplitl [HO]; · iexact HO
    isplitr
    · iapply ((recs_lev I κ ν).trans (mayWait_of_above' c (.reg barSem) 0 1 l (by decide) (le_of_eq hlev) hl)); iexact HR
    iexact Hat
  iintro ⟨HO, Hat, -, Hpay⟩
  imod (Rounds.cell_close ER (Rd I) (Set.mem_univ (κ (c, none))) (fun h => h) (R := 0 + 1) (duties_later I _)) $$ [Hat] with Hz
  · isplitr; · iexact HI
    iexact Hat
  iapply Hk
  isplitl [Hz]; · iexact Hz
  ihave H := (Entails.of_eq (show bigSep ((Rd I).duties ((c : Thread nD τ), .reg barSem) 0 \ ∅) (fun d => (Rd I).payload ((c : Thread nD τ), .reg barSem) 0 d)
        = iprop(barPay c false ∗ barPay c true) from by
      rw [show ((c : Thread nD τ), SemLoc.reg barSem) = cell c none from rfl, hdut, Finset.sdiff_empty, show Finset.range (cnt none) = insert 0 {1} from rfl, bigSep_insert (by decide), bigSep_singleton, hpay0, hpay1]; rfl)) $$ Hpay
  icases H with ⟨H1, H2⟩
  isplitl [H1]; · iexact H1
  isplitl [H2]; · iexact H2
  iexists _; iexact HO

theorem freed_mono (p : Fin 2) {s s' : ℕ} (h : s ≤ s') : freed p s ≤ freed p s' := by unfold freed; omega

theorem rel_mono (k : Key) {n n' : ℕ} (h : n' ≤ n) : rel (F := F) k n ⊢ rel k n' := by
  unfold rel
  by_cases h0 : n' = 0
  · rw [if_pos h0]; iintro -; iempintro
  · rw [if_neg h0, if_neg (by omega)]; exact released_mono ES h

theorem credPay_mono (c : Dev nD) (d : Bool) {j j' : ℕ} (h : j' ≤ j) : credPay (F := F) c d j ⊢ credPay c d j' := by
  unfold credPay
  exact bigSep_mono fun x _ => rel_mono _ (freed_mono _ (by omega))

/-- A device's account of the credits it has taken: `m` of them, and what those that came in tell. -/
def CW (c : Dev nD) (d : Bool) (m : ℕ) : sProp 𝕄 :=
  iprop(∃ T : Finset ℕ, ⌜T ⊆ Finset.range 13 ∧ m ≤ T.card⌝ ∗ atPos ER (cell c (some (.cred d))) 0 T m ∗ bigSep T fun j => credPay (F := F) c d j)

/-- Taking the next credit: the neighbour has freed what it frees by that step. -/
theorem wp_credWait (c : Dev nD) (d : Bool) (m : ℕ) (hm : m < 13) {K : PUnit → TP F} {Q : PUnit → sProp 𝕄} (l : List Ob) (v : ℕ)
    (hv : 2 * m + 3 ≤ v) (hl : Above v l) :
    iprop(recs I κ ν ∗ cred (tallyAt (cell c (some (.cred d))) m 1) ∗ CW c d m ∗ O c l)
      ⊢ iprop(((CW c d (m + 1) ∗ credPay c d m ∗ O c l) -∗ WP c (K ⟨⟩) Q)
        -∗ WP c (.op (.semWait (credSem d) (1#32 : BitVec 32).toInt) K) Q) := by
  have hcell : cell c (some (.cred d)) = ((c : Thread nD τ), .reg (credSem d)) := rfl
  have hexp := expect_cell I c (some (.cred d))
  have hdut := duties_cell I c (some (.cred d))
  have hlev := lv_cell c (some (.cred d)) m
  rw [show cnt (some (.cred d)) = 13 from rfl, hcell] at hdut
  rw [show cnt (some (.cred d)) * amt (some (.cred d)) = 13 from rfl, hcell] at hexp
  iintro ⟨#HR, Hc, HW, HO⟩ Hk
  ihave HI := (recs_inv I κ ν c (some (.cred d))) $$ HR
  icases HI with #HI
  unfold CW O
  icases HO with ⟨%W, HO⟩
  icases HW with ⟨%T, %hT, Hat, #HT⟩
  iapply (Rounds.wp_wait 𝒱₀ ER (Rd I) (c : Thread nD τ) none (sm := .reg (credSem d)) (κ := κ (c, some (.cred d)))
      (wpE_semWait_eq 𝒱₀ (c : Thread nD τ) none Set.univ) (Set.mem_univ _) (cr := Finsupp.single m 1) (O := lsum c l) (W := W) {(.reg (credSem d), m)}
      (R := 0) (m := m) (T := T) (by rw [Util.total_single]; decide) (image_single_subset (.reg (credSem d)) m 1)) $$ [Hc HO Hat]
  · isplitr; · iexact HI
    isplitl [Hc]; · iexact Hc
    isplitl [HO]; · iexact HO
    isplitr
    · iapply ((recs_lev I κ ν).trans (mayWait_of_above' c (.reg (credSem d)) m v l hm (le_trans (le_of_eq hlev) hv) hl)); iexact HR
    iexact Hat
  iintro %S ⟨%hS, HO, Hat, Hpay⟩
  obtain ⟨hTS, hSd, hcard⟩ := hS
  rw [hdut] at hSd hcard
  rw [hexp, Finset.card_sdiff_of_subset hSd, Finset.card_range] at hcard
  have hle : S.card ≤ 13 := by simpa using Finset.card_le_card hSd
  have h1 : (1#32 : BitVec 32).toInt.toNat = 1 := by decide
  have hcardS : m + 1 ≤ S.card := by
    have : m + 1 + (13 - S.card) ≤ 13 := hcard
    omega
  obtain ⟨j, hjS, hj⟩ : ∃ j ∈ S, m ≤ j := by
    by_contra hno
    push Not at hno
    have : S ⊆ Finset.range m := fun j hj => Finset.mem_range.mpr (hno j hj)
    have := Finset.card_le_card this
    rw [Finset.card_range] at this
    omega
  have hpay : (fun d' => (Rd I).payload ((c : Thread nD τ), .reg (credSem d)) 0 d') = fun j => credPay (F := F) c d j :=
    funext fun j => (payload_cell I c (some (.cred d)) j)
  ihave Hpay := (Entails.of_eq (congrArg (bigSep (S \ T)) hpay)) $$ Hpay
  icases Hpay with #Hpay
  ihave #HS := (show iprop(bigSep T (fun j => credPay (F := F) c d j) ∗ bigSep (S \ T) fun j => credPay (F := F) c d j)
      ⊢ bigSep S (fun j => credPay (F := F) c d j) from by
    have h := bigSep_union (Φ := fun j => credPay (F := F) c d j) (Finset.disjoint_sdiff (s := T) (t := S))
    rw [Finset.union_sdiff_of_subset hTS] at h
    exact Entails.of_eq h.symm) $$ []
  · isplitr; · iexact HT
    iexact Hpay
  iapply Hk
  isplitl [Hat]
  · iexists S
    isplitr; · ipureintro; exact ⟨hSd, hcardS⟩
    isplitl [Hat]; · iexact Hat
    iexact HS
  isplitr
  · iapply (show bigSep S (fun j => credPay (F := F) c d j) ⊢ credPay c d m from
      BIBase.Entails.trans (bigSep_elim hjS) (credPay_mono c d hj)); iexact HS
  iexists _; iexact HO

/-- All credits taken: the semaphore is done with. -/
theorem CW_close (c : Dev nD) (d : Bool) :
    iprop(recs I κ ν ∗ CW c d 13) ⊢ iprop(|={Set.univ}=> semVal (cell c (some (.cred d))) 0) := by
  have hexp := expect_cell I c (some (.cred d))
  have hdut := duties_cell I c (some (.cred d))
  iintro ⟨#HR, HW⟩
  ihave HI := (recs_inv I κ ν c (some (.cred d))) $$ HR
  icases HI with #HI
  unfold CW
  icases HW with ⟨%T, %hT, Hat, -⟩
  have hTe : T = Finset.range 13 := Finset.eq_of_subset_of_card_le hT.1 (by rw [Finset.card_range]; exact hT.2)
  imod (Rounds.fupd_skip ER (Rd I) (κ := κ (c, some (.cred d))) (T := T) (R := 0) (m := 13) (by rw [hdut, hTe]; exact Finset.Subset.refl _) (by rw [hexp]; rfl) (Set.mem_univ _)) $$ [Hat] with ⟨Hat, -⟩
  · isplitr; · iexact HI
    iexact Hat
  imod (Rounds.cell_close ER (Rd I) (Set.mem_univ (κ (c, some (.cred d)))) (fun h => h) (R := 0 + 1) (duties_later I _)) $$ [Hat] with Hz
  · isplitr; · iexact HI
    iexact Hat
  imodintro; iexact Hz

end Cert.RingProof

end
-- ==== Proof.Local.lean ====
/-
The rules of the loads and stores: a load or a store of one block of a buffer, the block held on its own; a load of
a block of an argument, the argument held whole.
-/
module

public import proofs.«01_k».proof.Proof.Credits

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Slots
variable (c : Dev nD) {s s' : Shape} {e : EltTy} (m : Memref sig .tc .vmem s e) (r : Rect s) (hr : ∀ a, r.stride a = 1) (hsq : r.shape.Squeezes s')

/-- A load of a block that is held squeezed. -/
theorem wp_ldSlot {hl : m.view.LoadsAt r.toLoadRect} (X : s'.Idx → Elt F e)
    {K : (r.shape.Idx → Elt F e) → TP F} {Q : PUnit → sProp 𝕄} :
    (has c ((m.slice r hr).squeeze s' hsq) X : sProp 𝕄)
      ⊢ iprop((∀ R : r.shape.Idx → Elt F e, (⌜∀ h : r.shape.ShapeCasts s', shapeCast s' R h = X⌝ ∗ has c ((m.slice r hr).squeeze s' hsq) X) -∗ WP c (K R) Q)
        -∗ WP c (.op (.load m r.toLoadRect hl) K) Q) := by
  unfold has owns
  iintro ⟨%f, %hf, H⟩ Hk
  iapply (wp_load_rect 𝒱₀ (c : Thread nD τ) none Set.univ (m := m) (r := r) (hl := hl)
    (S := ((m.slice r hr).squeeze s' hsq).view.set) (q := fullShare) (f := f) (subset_of_eq (View.set_reshape _ _).symm)) $$ [H]
  · iexact H
  iintro H
  iapply Hk $$ %((m.access r).read (Elt F) f)
  isplitr
  · ipureintro
    intro h
    rw [← hf]; rfl
  iexists f
  isplitr; · ipureintro; exact hf
  iexact H

/-- A store of a whole block that is held squeezed. -/
theorem wp_stSlot (Z : s'.Idx → Elt F e) (h : s'.ShapeCasts r.shape) {hx : (m.access r).Stores (Finset.univ : Finset r.shape.Idx)}
    {hm : (Finset.univ : Finset r.shape.Idx) = Finset.univ ∨ ∀ a, r.stride a = 1}
    {K : PUnit → TP F} {Q : PUnit → sProp 𝕄} :
    (any c ((m.slice r hr).squeeze s' hsq) : sProp 𝕄)
      ⊢ iprop((has c ((m.slice r hr).squeeze s' hsq) Z -∗ WP c (K ⟨⟩) Q)
        -∗ WP c (.op (.store m r (shapeCast r.shape Z h) Finset.univ hx hm) K) Q) := by
  unfold any has owns
  iintro ⟨%Y, %f, -, H⟩ Hk
  iapply (wp_store 𝒱₀ (c : Thread nD τ) none Set.univ (m := m) (r := r) (hx := hx) (hm := hm) (Mk := Finset.univ)
    (S := ((m.slice r hr).squeeze s' hsq).view.set) (f := f) (subset_of_eq (View.set_reshape _ _).symm)) $$ [H]
  · iexact H
  iintro H
  iapply Hk
  iexists _
  isplitr
  rotate_left
  · iexact H
  ipureintro
  funext j
  show (m.access r).read (Elt F) ((m.access r).write (Elt F) f (shapeCast r.shape Z h) Finset.univ) (Shape.reshapeEquiv _ j) = Z j
  rw [View.read_write_univ]
  show Z (Shape.reshapeEquiv _ (Shape.reshapeEquiv _ j)) = Z j
  congr 1
  rw [Shape.reshapeEquiv_reshapeEquiv, Shape.reshapeEquiv_self]

end Slots

/-- A load of a block of a buffer that is held whole. -/
theorem wp_ldWhole (c : Dev nD) {cs : CoreSpace} {s : Shape} {e : EltTy} (m : Memref sig .tc cs s e) {r : LoadRect s} {hl : m.view.LoadsAt r}
    (f : Buf (Elt F) (m.view.loc (c : Thread nD τ))) {K : (r.shape.Idx → Elt F e) → TP F} {Q : PUnit → sProp 𝕄} :
    (m.view.loc (c : Thread nD τ) ↦{fullShare} f : sProp 𝕄)
      ⊢ iprop(((m.view.loc (c : Thread nD τ) ↦{fullShare} f) -∗ WP c (K (m.view.readAt (Elt F) r f)) Q)
        -∗ WP c (.op (.load m r hl) K) Q) :=
  wp_load 𝒱₀ (c : Thread nD τ) none Set.univ (Finset.subset_univ _)

end Cert.RingProof

end
-- ==== Proof.RunRs.lean ====
/-
The rounds of the reduce-scatter: what a device holds at the start of each, and the rule of each of its steps.
-/
module

public import proofs.«01_k».proof.Proof.Local

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Families over the transfers, cut at a step -/

/-- The family below a step, -/
def below {n : ℕ} (Φ : Fin n → sProp 𝕄) (s : ℕ) : sProp 𝕄 := bigSep (Finset.univ.filter fun k : Fin n => k.val < s) Φ
/-- and from it on. -/
def from' {n : ℕ} (Φ : Fin n → sProp 𝕄) (s : ℕ) : sProp 𝕄 := bigSep (Finset.univ.filter fun k : Fin n => s ≤ k.val) Φ

theorem from_zero {n : ℕ} (Φ : Fin n → sProp 𝕄) : from' Φ 0 = bigSep Finset.univ Φ := by
  unfold from'; congr 1; ext k; simp
theorem below_top {n : ℕ} (Φ : Fin n → sProp 𝕄) : below Φ n = bigSep Finset.univ Φ := by
  unfold below; congr 1; ext k; simp
theorem below_zero {n : ℕ} (Φ : Fin n → sProp 𝕄) : below Φ 0 = iprop(emp) := by
  unfold below
  rw [show (Finset.univ.filter fun k : Fin n => k.val < 0) = ∅ from by ext k; simp]; rfl
theorem from_peel {n : ℕ} (Φ : Fin n → sProp 𝕄) (k : Fin n) : from' Φ k.val = iprop(Φ k ∗ from' Φ (k.val + 1)) := by
  unfold from'
  refine Eq.trans (congrArg (bigSep · Φ) (?_ : _ = insert k (Finset.univ.filter fun j : Fin n => k.val + 1 ≤ j.val))) (bigSep_insert (by simp))
  ext j; simp [Fin.ext_iff]; omega
theorem below_push {n : ℕ} (Φ : Fin n → sProp 𝕄) (k : Fin n) : below Φ (k.val + 1) = iprop(Φ k ∗ below Φ k.val) := by
  unfold below
  refine Eq.trans (congrArg (bigSep · Φ) (?_ : _ = insert k (Finset.univ.filter fun j : Fin n => j.val < k.val))) (bigSep_insert (by simp))
  ext j; simp [Fin.ext_iff]; omega
theorem from_none {n : ℕ} (Φ : Fin n → sProp 𝕄) (s : ℕ) (h : n ≤ s) : from' Φ s = iprop(emp) := by
  unfold from'
  rw [show (Finset.univ.filter fun k : Fin n => s ≤ k.val) = ∅ from by ext k; simp; omega]; rfl

/-- One of a thing for each ring and sub-block. -/
abbrev quad (f : Bool → Fin 2 → sProp 𝕄) : sProp 𝕄 := iprop(f false 0 ∗ f true 0 ∗ f false 1 ∗ f true 1)

section Rs
variable (I : Ins F) (κ : Dev nD × Kind → ℕ) (ν : Key → ℕ) (c : Dev nD) (d : Bool) (u : Fin 2)

/-- The arguments, each whole. -/
def inp : sProp 𝕄 :=
  iprop((sxM.view.loc (c : Thread nD τ) ↦{fullShare} I.sx c) ∗ (swM.view.loc (c : Thread nD τ) ↦{fullShare} I.sw c)
    ∗ (xM.view.loc (c : Thread nD τ) ↦{fullShare} I.x c) ∗ (wM.view.loc (c : Thread nD τ) ↦{fullShare} I.w c))

/-- What lets a device write the neighbour's slot for transfer `k`: the slot itself for the first two, later a token
    that takes it once it was freed often enough. -/
def slotRight (k : ℕ) : sProp 𝕄 :=
  if k ≤ 1 then any (dst d c) (recvV d (par k) u) else writeTok ES (Key.mk (dst d c) d (par k) u) (k / 2)

theorem slotRight_take (k : ℕ) :
    iprop(recs I κ ν ∗ slotRight c d u k ∗ rel (Key.mk (dst d c) d (par k) u) (k / 2)) ⊢ iprop(|={Set.univ}=> any (F := F) (dst d c) (recvV d (par k) u)) := by
  unfold slotRight
  by_cases h : k ≤ 1
  · rw [if_pos h]
    iintro ⟨-, H, -⟩; imodintro; iexact H
  · rw [if_neg h]
    unfold rel
    rw [if_neg (by omega)]
    iintro ⟨#HR, H, Hr⟩
    ihave HI := (recs_slot I κ ν (Key.mk (dst d c) d (par k) u)) $$ HR
    ihave H := (slot_take (E := ES) (k := Key.mk (dst d c) d (par k) u) (S := slotAny (Key.mk (dst d c) d (par k) u)) (ι := ν (Key.mk (dst d c) d (par k) u)) (Set.mem_univ _) (k / 2)) $$ [HI H Hr]
    · isplitl [HI]; · iexact HI
      isplitl [Hr] <;> iassumption
    iexact H

/-- What transfer `k` has left behind, what it holds while under way, and what it still needs before it starts. -/
def rsPast (k : Fin 15) : sProp 𝕄 := iprop(semVal (cell c (some (.rss d k u))) 0 ∗ semVal (cell c (some (.rsr d k u))) 0)
def rsPres (k : Fin 15) : sProp 𝕄 :=
  iprop(atPos ER (cell c (some (.rss d k u))) 0 ∅ 0 ∗ atPos ER (cell c (some (.rsr d k u))) 0 ∅ 0
    ∗ cred (tallyAt (cell c (some (.rsr d k u))) 0 N) ∗ cred (tallyAt (cell c (some (.rss d k u))) 0 N))
def rsRest (k : Fin 15) : sProp 𝕄 :=
  iprop(atPos ER (cell c (some (.rss d k u))) 0 ∅ 0 ∗ atPos ER (cell c (some (.rsr d k u))) 0 ∅ 0
    ∗ cred (tallyAt (cell c (some (.rsr d k u))) 0 N)
    ∗ dutyTok ER (cell c (some (.rss d k u))) 0 0 ∗ dutyTok ER (cell (dst d c) (some (.rsr d k u))) 0 0 ∗ slotRight c d u k.val)

theorem dma_rss (k : Fin 15) : IsDma (.rss d k u) := ⟨rfl, rfl⟩
theorem dma_rsr (k : Fin 15) : IsDma (.rsr d k u) := ⟨rfl, rfl⟩
theorem credit_recv (p : Fin 2) : (recvV d p u).view.dmaCredit = N := rfl
theorem credit_send : (sendV d u).view.dmaCredit = N := rfl

/-- Sending a partial sum. -/
theorem wp_rsSend (k : Fin 15) (K : TP F) (Q : PUnit → sProp 𝕄) (l : List Ob) :
    iprop(recs I κ ν ∗ rsRest c d u k ∗ rel (Key.mk (dst d c) d (par k.val) u) (k.val / 2) ∗ has c (sendV d u) (PS I d u k.val c) ∗ O c (oRsr d k u :: l))
      ⊢ iprop(((rsPres c d u k ∗ O c l) -∗ WP c K Q) -∗ WP c (rsSend c d k u K) Q) := by
  unfold rsRest rsPres rsSend
  iintro ⟨#HR, ⟨Ha1, Ha2, Hc, Ht1, Ht2, Hsl⟩, Hrel, Hs, HO⟩ Hk
  imod (slotRight_take I κ ν c d u k.val) $$ [Hsl Hrel] with Hsl
  · isplitr; · iexact HR
    isplitl [Hsl] <;> iassumption
  ihave Hs := (show (has c (sendV d u) (PS I d u k.val c) : sProp 𝕄) ⊢ owns (c : Thread nD τ) (sendV d u) fullShare (PS I d u k.val c) from .rfl) $$ Hs
  iapply (wp_send I κ ν c (dst d c) (.rss d k u) (.rsr d k u) (dma_rss d u k) (dma_rsr d u k) (rss d k u) (rsr d k u) rfl rfl d rfl
    (a := sendV d u) (b := recvV d (par k.val) u) (credit_recv d u _) fullShare (PS I d u k.val c) .rfl
    (by
      show (has (dst d c) (recvV d (par k.val) u) (PS I d u k.val c) : sProp 𝕄) ⊢ has (dst d c) (recvV d (par k.val) u) (PS I d u k.val (src d (dst d c)))
      rw [show src d (dst d c) = c from dst_dst' d c]) (K := fun _ => K) l) $$ [Hs Hsl Ht1 Ht2 HO]
  · isplitr; · iexact HR
    isplitl [Hs]; · iexact Hs
    isplitl [Hsl]; · iexact Hsl
    isplitl [Ht1]; · iexact Ht1
    isplitl [Ht2]; · iexact Ht2
    iexact HO
  iintro ⟨Hc', HO⟩
  iapply Hk
  isplitr [HO]
  · isplitl [Ha1]; · iexact Ha1
    isplitl [Ha2]; · iexact Ha2
    isplitl [Hc] <;> iassumption
  iexact HO

/-- The two waits of a round. -/
theorem wp_rsWaits (k : Fin 15) (K : TP F) (Q : PUnit → sProp 𝕄) (l : List Ob) (hl : Above (2 * k.val + 2) l) :
    iprop(recs I κ ν ∗ rsPres c d u k ∗ O c l)
      ⊢ iprop(((rsPast c d u k ∗ has c (sendV d u) (PS I d u k.val c) ∗ has c (recvV d (par k.val) u) (PS I d u k.val (src d c)) ∗ O c l) -∗ WP c K Q)
        -∗ WP c (rsWaits d k u K) Q) := by
  unfold rsPast rsPres rsWaits
  iintro ⟨#HR, ⟨Ha1, Ha2, Hc2, Hc1⟩, HO⟩ Hk
  iapply (wp_waitDma I κ ν c (.rss d k u) (dma_rss d u k) (rss d k u) rfl (a := recvV d (par k.val) u) (b := sendV d u) (credit_send d u) l
    (2 * k.val + 2) (Nat.zero_le _) hl) $$ [Ha1 Hc1 HO]
  · isplitr; · iexact HR
    isplitl [Hc1]; · iexact Hc1
    isplitl [Ha1] <;> iassumption
  iintro ⟨Hz1, Hp1, HO⟩
  iapply (wp_waitDma I κ ν c (.rsr d k u) (dma_rsr d u k) (rsr d k u) rfl (a := sendV d u) (b := recvV d (par k.val) u) (credit_recv d u _) l
    (2 * k.val + 2) (le_refl _) hl) $$ [Ha2 Hc2 HO]
  · isplitr; · iexact HR
    isplitl [Hc2]; · iexact Hc2
    isplitl [Ha2] <;> iassumption
  iintro ⟨Hz2, Hp2, HO⟩
  ihave Hp1 := (show ownPay I c (.rss d k u) 0 ⊢ has c (sendV d u) (PS I d u k.val c) from .rfl) $$ Hp1
  ihave Hp2 := (show ownPay I c (.rsr d k u) 0 ⊢ has c (recvV d (par k.val) u) (PS I d u k.val (src d c)) from .rfl) $$ Hp2
  iapply Hk
  isplitl [Hz1 Hz2]
  · isplitl [Hz1] <;> iassumption
  isplitl [Hp1]; · iexact Hp1
  isplitl [Hp2] <;> iassumption

theorem has_any {sp : Space} {s : Shape} {e : EltTy} (m : Memref sig .tc sp s e) (X : s.Idx → Elt F e) : has c m X ⊢ any (F := F) c m := by
  unfold any has; iintro H; iexists X; iexact H

theorem fin16_eq (k : Fin 16) : fin16 k.val = k := by revert k; decide

theorem wp_ldRecv (p : Fin 2) {hl : (recvM d).view.LoadsAt (recvR p u).toLoadRect} (X : S128x4096.Idx → Elt F .i32)
    {K : Vec F S1x1x128x4096 .i32 → TP F} {Q : PUnit → sProp 𝕄} :
    (has c (recvV d p u) X : sProp 𝕄)
      ⊢ iprop((∀ R : Vec F S1x1x128x4096 .i32, (⌜shapeCast S128x4096 R shapeCasts_S1x1x128x4096_S128x4096 = X⌝ ∗ has c (recvV d p u) X) -∗ WP c (K R) Q)
        -∗ WP c (.op (.load (recvM d) (recvR p u).toLoadRect hl) K) Q) := by
  iintro H Hk
  ihave H := (show (has c (recvV d p u) X : sProp 𝕄) ⊢ has c (((recvM d).slice (recvR p u) (fun _ => rfl)).squeeze S128x4096 squeezes_S1x1x128x4096_S128x4096) X from .rfl) $$ H
  ihave Hw := (wp_ldSlot c (recvM d) (recvR p u) (fun _ => rfl) squeezes_S1x1x128x4096_S128x4096 X (hl := hl) (K := K) (Q := Q)) $$ H
  iapply Hw
  iintro %R ⟨%hR, H⟩
  ihave H := (show (has c (((recvM d).slice (recvR p u) (fun _ => rfl)).squeeze S128x4096 squeezes_S1x1x128x4096_S128x4096) X : sProp 𝕄) ⊢ has c (recvV d p u) X from .rfl) $$ H
  iapply Hk $$ %R
  isplitr
  · ipureintro; exact hR _
  iexact H
theorem wp_ldSend {hl : (sendM d).view.LoadsAt (sendR u).toLoadRect}
    {K : Vec F S1x128x4096 .i32 → TP F} {Q : PUnit → sProp 𝕄} :
    (any c (sendV d u) : sProp 𝕄)
      ⊢ iprop((∀ R : Vec F S1x128x4096 .i32, any c (sendV d u) -∗ WP c (K R) Q)
        -∗ WP c (.op (.load (sendM d) (sendR u).toLoadRect hl) K) Q) := by
  unfold any
  iintro ⟨%X, H⟩ Hk
  ihave H := (show (owns (c : Thread nD τ) (sendV d u) fullShare X : sProp 𝕄) ⊢ has c (((sendM d).slice (sendR u) (fun _ => rfl)).squeeze S128x4096 squeezes_S1x128x4096_S128x4096) X from .rfl) $$ H
  ihave Hw := (wp_ldSlot c (sendM d) (sendR u) (fun _ => rfl) squeezes_S1x128x4096_S128x4096 X (hl := hl) (K := K) (Q := Q)) $$ H
  iapply Hw
  iintro %R ⟨-, H⟩
  ihave H := (show (has c (((sendM d).slice (sendR u) (fun _ => rfl)).squeeze S128x4096 squeezes_S1x128x4096_S128x4096) X : sProp 𝕄) ⊢ owns (c : Thread nD τ) (sendV d u) fullShare X from .rfl) $$ H
  iapply Hk $$ %R
  iexists X; iexact H
theorem wp_ldStg {hl : (stgM d).view.LoadsAt (sendR u).toLoadRect}
    {K : Vec F S1x128x4096 .f32 → TP F} {Q : PUnit → sProp 𝕄} :
    (any c (stgV d u) : sProp 𝕄)
      ⊢ iprop((∀ R : Vec F S1x128x4096 .f32, any c (stgV d u) -∗ WP c (K R) Q)
        -∗ WP c (.op (.load (stgM d) (sendR u).toLoadRect hl) K) Q) := by
  unfold any
  iintro ⟨%X, H⟩ Hk
  ihave H := (show (owns (c : Thread nD τ) (stgV d u) fullShare X : sProp 𝕄) ⊢ has c (((stgM d).slice (sendR u) (fun _ => rfl)).squeeze S128x4096 squeezes_S1x128x4096_S128x4096) X from .rfl) $$ H
  ihave Hw := (wp_ldSlot c (stgM d) (sendR u) (fun _ => rfl) squeezes_S1x128x4096_S128x4096 X (hl := hl) (K := K) (Q := Q)) $$ H
  iapply Hw
  iintro %R ⟨-, H⟩
  ihave H := (show (has c (((stgM d).slice (sendR u) (fun _ => rfl)).squeeze S128x4096 squeezes_S1x128x4096_S128x4096) X : sProp 𝕄) ⊢ owns (c : Thread nD τ) (stgV d u) fullShare X from .rfl) $$ H
  iapply Hk $$ %R
  iexists X; iexact H
theorem wp_stSend (Z : S128x4096.Idx → Elt F .i32) {hx : ((sendM d).access (sendR u)).Stores Finset.univ} {hm}
    {K : PUnit → TP F} {Q : PUnit → sProp 𝕄} :
    (any c (sendV d u) : sProp 𝕄)
      ⊢ iprop((has c (sendV d u) Z -∗ WP c (K ⟨⟩) Q)
        -∗ WP c (.op (.store (sendM d) (sendR u) (shapeCast S1x128x4096 Z shapeCasts_S128x4096_S1x128x4096) Finset.univ hx hm) K) Q) :=
  wp_stSlot c (sendM d) (sendR u) (fun _ => rfl) squeezes_S1x128x4096_S128x4096 Z shapeCasts_S128x4096_S1x128x4096
theorem wp_stStg (Z : S128x4096.Idx → Elt F .f32) {hx : ((stgM d).access (sendR u)).Stores Finset.univ} {hm}
    {K : PUnit → TP F} {Q : PUnit → sProp 𝕄} :
    (any c (stgV d u) : sProp 𝕄)
      ⊢ iprop((has c (stgV d u) Z -∗ WP c (K ⟨⟩) Q)
        -∗ WP c (.op (.store (stgM d) (sendR u) (shapeCast S1x128x4096 Z shapeCasts_S128x4096_S1x128x4096) Finset.univ hx hm) K) Q) :=
  wp_stSlot c (stgM d) (sendR u) (fun _ => rfl) squeezes_S1x128x4096_S128x4096 Z shapeCasts_S128x4096_S1x128x4096

/-- The first chunk. -/
theorem wp_rsInit (K : TP F) (Q : PUnit → sProp 𝕄) (l : List Ob) :
    iprop(recs I κ ν ∗ inp I c ∗ rsRest c d u 0 ∗ any c (sendV d u) ∗ O c (oRsr d 0 u :: l))
      ⊢ iprop(((inp I c ∗ rsPres c d u 0 ∗ O c l) -∗ WP c K Q) -∗ WP c (rsInit xM wM c d u K) Q) := by
  unfold inp rsInit
  iintro ⟨#HR, ⟨Hsx, Hsw, Hx, Hw⟩, Hr, Hs, HO⟩ Hk
  iapply (wp_ldWhole c xM (I.x c)) $$ Hx
  iintro Hx
  iapply (wp_ldWhole c wM (I.w c)) $$ Hw
  iintro Hw
  iapply (wp_ldSend c d u) $$ Hs
  iintro %R Hs
  rw [show initPay (F := F) (xM.view.readAt (Elt F) (xR c d 0 u).toLoadRect (I.x c)) (wM.view.readAt (Elt F) (wR d).toLoadRect (I.w c))
      = shapeCast S1x128x4096 (PS I d u 0 c) shapeCasts_S128x4096_S1x128x4096 from rfl]
  iapply (wp_stSend c d u (PS I d u 0 c)) $$ Hs
  iintro Hs
  ihave Hs := (show (has c (sendV d u) (PS I d u 0 c) : sProp 𝕄) ⊢ has c (sendV d u) (PS I d u (0 : Fin 15).val c) from .rfl) $$ Hs
  iapply (wp_rsSend I κ ν c d u 0 K Q l) $$ [Hr Hs HO]
  · isplitr; · iexact HR
    isplitl [Hr]; · iexact Hr
    isplitr
    · unfold rel; iempintro
    isplitl [Hs] <;> iassumption
  iintro ⟨Hp, HO⟩
  iapply Hk
  isplitr [Hp HO]
  · isplitl [Hsx]; · iexact Hsx
    isplitl [Hsw]; · iexact Hsw
    isplitl [Hx] <;> iassumption
  isplitl [Hp] <;> iassumption

/-- Adding this device's share. -/
theorem wp_rsAcc (k : Fin 15) (K : TP F) (Q : PUnit → sProp 𝕄) (Y : S128x4096.Idx → Elt F .i32) :
    iprop(inp I c ∗ has c (sendV d u) Y ∗ has c (recvV d (par k.val) u) (PS I d u k.val (src d c)))
      ⊢ iprop(((inp I c ∗ has c (sendV d u) (PS I d u (k.val + 1) c) ∗ any c (recvV d (par k.val) u)) -∗ WP c K Q)
        -∗ WP c (rsAcc xM wM c d k u K) Q) := by
  unfold inp rsAcc
  iintro ⟨⟨Hsx, Hsw, Hx, Hw⟩, Hs, Hr⟩ Hk
  iapply (wp_ldRecv c d u (par k.val) (PS I d u k.val (src d c))) $$ Hr
  iintro %R ⟨%hR, Hr⟩
  iapply (wp_ldWhole c xM (I.x c)) $$ Hx
  iintro Hx
  iapply (wp_ldWhole c wM (I.w c)) $$ Hw
  iintro Hw
  ihave Hs := (has_any c (sendV d u) Y) $$ Hs
  iapply (wp_ldSend c d u) $$ Hs
  iintro %R' Hs
  have hacc : accum (F := F) R (xM.view.readAt (Elt F) (xR c d k.succ u).toLoadRect (I.x c)) (wM.view.readAt (Elt F) (wR d).toLoadRect (I.w c))
      = PS I d u (k.val + 1) c := by
    unfold accum
    rw [hR]
    show _ = addi (PS I d u k.val (src d c)) (share I d u (k.val + 1) c)
    unfold share xAt
    rw [show fin16 (k.val + 1) = k.succ from fin16_eq k.succ]
    rfl
  unfold accPay
  rw [hacc]
  iapply (wp_stSend c d u (PS I d u (k.val + 1) c)) $$ Hs
  iintro Hs
  iapply Hk
  isplitr [Hr Hs]
  · isplitl [Hsx]; · iexact Hsx
    isplitl [Hsw]; · iexact Hsw
    isplitl [Hx] <;> iassumption
  isplitl [Hs]; · iexact Hs
  iapply (has_any c (recvV d (par k.val) u) (PS I d u k.val (src d c))); iexact Hr

end Rs

end Cert.RingProof

end
-- ==== Proof.Loop.lean ====
/-
The fourteen rounds of the reduce-scatter as one induction.
-/
module

public import proofs.«01_k».proof.Proof.RunRs

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Rs
variable (I : Ins F) (κ : Dev nD × Kind → ℕ) (ν : Key → ℕ) (c : Dev nD) (d : Bool) (u : Fin 2)

/-- How far a device has freed its two slots of one ring and sub-block before step `s`; from step 14 on the slot of
    odd steps is simply its own again. -/
def rd (s : ℕ) : sProp 𝕄 :=
  if s ≤ 13 then iprop((readerAt ES (Key.mk c d 0 u) (freed 0 s) ∗ rel (Key.mk c d 0 u) (freed 0 s))
      ∗ (readerAt ES (Key.mk c d 1 u) (freed 1 s) ∗ rel (Key.mk c d 1 u) (freed 1 s)))
  else any c (recvV d 1 u)

theorem slot_excl (k : Key) : iprop(slotAny (F := F) k ∗ slotAny k) ⊢ (False : sProp 𝕄) := by
  have hne : (recvV k.2.1 k.2.2.1 k.2.2.2).view.set.Nonempty := (Finset.univ_nonempty_iff.mpr ⟨Shape.Idx.first (by decide)⟩).map
  refine BIBase.Entails.trans ?_ (slot_slot_false (ℓ := (recvV k.2.1 k.2.2.1 k.2.2.2).view.loc (k.1 : Thread nD τ)) hne)
  unfold slotAny any owns slot
  iintro ⟨⟨%X, %f, -, H⟩, ⟨%X', %f', -, H'⟩⟩
  isplitl [H]
  · iexists f; iexact H
  iexists f'; iexact H'

theorem rel_succ (k : Key) (n : ℕ) : (released ES k (n + 1) : sProp 𝕄) ⊢ rel k (n + 1) := by
  unfold rel; rw [if_neg (Nat.succ_ne_zero n)]

/-- Freeing the slot of a step. -/
theorem free_slot (k : Key) (n : ℕ) :
    iprop(recs I κ ν ∗ readerAt ES k n ∗ slotAny k) ⊢ iprop(|={Set.univ}=> (readerAt ES k (n + 1) ∗ rel (F := F) k (n + 1))) := by
  iintro ⟨#HR, Hr, Hs⟩
  ihave HI := (recs_slot I κ ν k) $$ HR
  imod (slot_release ES (ι := ν k) (Set.mem_univ _) (slot_excl k) n) $$ [HI Hr Hs] with ⟨Hr, Hw⟩
  · isplitl [HI]; · iexact HI
    isplitl [Hr] <;> iassumption
  ihave Hw := (rel_succ k n) $$ Hw
  imodintro
  isplitl [Hr] <;> iassumption

theorem rd_step (s : ℕ) (hs : s ≤ 13) :
    iprop(recs I κ ν ∗ rd c d u s ∗ any c (recvV d (par s) u)) ⊢ iprop(|={Set.univ}=> rd (F := F) c d u (s + 1)) := by
  unfold rd
  rw [if_pos hs]
  by_cases h13 : s = 13
  · subst h13
    rw [if_neg (by decide)]
    iintro ⟨-, -, H⟩
    imodintro; iexact H
  rw [if_pos (by omega)]
  rcases Nat.mod_two_eq_zero_or_one s with hp | hp
  · have hpar : par s = 0 := Fin.ext hp
    rw [hpar, show freed 0 (s + 1) = freed 0 s + 1 from by simp [freed]; omega, show freed 1 (s + 1) = freed 1 s from by simp [freed]; omega]
    iintro ⟨#HR, ⟨⟨H0, -⟩, H1⟩, Hs⟩
    imod (free_slot I κ ν (Key.mk c d 0 u) (freed 0 s)) $$ [H0 Hs] with H
    · isplitr; · iexact HR
      isplitl [H0]; · iexact H0
      iexact Hs
    imodintro
    isplitl [H] <;> iassumption
  · have hpar : par s = 1 := Fin.ext hp
    rw [hpar, show freed 1 (s + 1) = freed 1 s + 1 from by simp [freed]; omega, show freed 0 (s + 1) = freed 0 s from by simp [freed]; omega]
    iintro ⟨#HR, ⟨H0, ⟨H1, -⟩⟩, Hs⟩
    imod (free_slot I κ ν (Key.mk c d 1 u) (freed 1 s)) $$ [H1 Hs] with H
    · isplitr; · iexact HR
      isplitl [H1]; · iexact H1
      iexact Hs
    imodintro
    isplitl [H0] <;> iassumption

/-- One ring's sub-block at the start of step `s`. -/
def RS (s : ℕ) : sProp 𝕄 :=
  iprop(below (rsPast (F := F) c d u) s ∗ (if h : s < 15 then rsPres c d u ⟨s, h⟩ else iprop(emp)) ∗ from' (rsRest (F := F) c d u) (s + 1) ∗ rd c d u s)

/-- The credits still to take at the start of step `s`, -/
def CWs (s : ℕ) : sProp 𝕄 := iprop(CW (F := F) c d (s - 1) ∗ from' (fun j : Fin 13 => cred (tallyAt (cell c (some (.cred d))) j.val 1)) (s - 1))
/-- those still to grant, -/
def toks (s : ℕ) : sProp 𝕄 := from' (fun j : Fin 13 => dutyTok ER (cell (src d c) (some (.cred d))) 0 j.val) s
/-- and what the credits taken so far tell. -/
def know (s : ℕ) : sProp 𝕄 := if s = 0 then iprop(emp) else credPay c d (s - 1)
instance know_persistent (s : ℕ) : BI.Persistent (know (F := F) c d s) := by unfold know; split <;> infer_instance

theorem know_rel (s : ℕ) : know c d s ⊢ rel (F := F) (Key.mk (dst d c) d (par (s + 1)) u) ((s + 1) / 2) := by
  unfold know
  by_cases h : s = 0
  · subst h; rw [if_pos rfl]; unfold rel; rw [if_pos (by decide)]
  · rw [if_neg h]
    unfold credPay
    refine BIBase.Entails.trans (bigSep_elim (Finset.mem_univ (par (s + 1), u))) ?_
    have : freed (par (s + 1)) (s - 1 + 1) = (s + 1) / 2 := by
      show (s - 1 + 1 + 1 - (s + 1) % 2) / 2 = (s + 1) / 2
      omega
    show rel (Key.mk (dst d c) d (par (s + 1)) u) (freed (par (s + 1)) (s - 1 + 1)) ⊢ _
    rw [this]

/-- The waits and the addition of a round; what is left is to send. -/
theorem wp_rsMid (s : Fin 14) (K : TP F) (Q : PUnit → sProp 𝕄) (l : List Ob) (hl : Above (2 * s.val + 2) l) :
    iprop(recs I κ ν ∗ inp I c ∗ RS c d u s.val ∗ O c l)
      ⊢ iprop(((inp I c ∗ below (rsPast (F := F) c d u) (s.val + 1) ∗ from' (rsRest (F := F) c d u) (s.val + 1) ∗ rd c d u (s.val + 1)
          ∗ has c (sendV d u) (PS I d u (s.val + 1) c) ∗ O c l) -∗ WP c K Q)
        -∗ WP c (rsWaits d s.castSucc u (rsAcc xM wM c d s.castSucc u K)) Q) := by
  unfold RS
  rw [dif_pos (show s.val < 15 by omega)]
  rw [show below (rsPast (F := F) c d u) (s.val + 1) = _ from below_push _ (s.castSucc)]
  have hw := wp_rsWaits I κ ν c d u s.castSucc (rsAcc xM wM c d s.castSucc u K) Q l hl
  have ha := wp_rsAcc I c d u s.castSucc K Q (PS I d u s.val c)
  simp only [Fin.val_castSucc] at hw ha ⊢
  iintro ⟨#HR, Hi, ⟨Hb, Hp, Hf, Hrd⟩, HO⟩ Hk
  iapply hw $$ [Hp HO]
  · isplitr; · iexact HR
    isplitl [Hp]; · iexact Hp
    iexact HO
  iintro ⟨Hz, Hs, Hr, HO⟩
  iapply ha $$ [Hi Hs Hr]
  · isplitl [Hi]; · iexact Hi
    isplitl [Hs] <;> iassumption
  iintro ⟨Hi, Hs, Hr⟩
  imod (rd_step I κ ν c d u s.val (by omega)) $$ [Hrd Hr] with Hrd
  · isplitr; · iexact HR
    isplitl [Hrd] <;> iassumption
  iapply Hk
  isplitl [Hi]; · iexact Hi
  isplitl [Hz Hb]
  · isplitl [Hz] <;> iassumption
  isplitl [Hf]; · iexact Hf
  isplitl [Hrd]; · iexact Hrd
  isplitl [Hs] <;> iassumption

/-- The send of a round, which brings the next. -/
theorem wp_rsNext (s : Fin 14) (K : TP F) (Q : PUnit → sProp 𝕄) (l : List Ob) :
    iprop(recs I κ ν ∗ know c d s.val ∗ below (rsPast (F := F) c d u) (s.val + 1) ∗ from' (rsRest (F := F) c d u) (s.val + 1) ∗ rd c d u (s.val + 1)
          ∗ has c (sendV d u) (PS I d u (s.val + 1) c) ∗ O c (oRsr d s.succ u :: l))
      ⊢ iprop(((RS c d u (s.val + 1) ∗ O c l) -∗ WP c K Q) -∗ WP c (rsSend c d s.succ u K) Q) := by
  unfold RS
  rw [dif_pos (show s.val + 1 < 15 by omega)]
  rw [show from' (rsRest (F := F) c d u) (s.val + 1) = _ from from_peel _ s.succ]
  have hw := wp_rsSend I κ ν c d u s.succ K Q l
  simp only [Fin.val_succ] at hw ⊢
  iintro ⟨#HR, Hkn, Hb, ⟨Hr, Hf⟩, Hrd, Hs, HO⟩ Hk
  ihave Hkn := (know_rel c d u s.val) $$ Hkn
  iapply hw $$ [Hr Hkn Hs HO]
  · isplitr; · iexact HR
    isplitl [Hr]; · iexact Hr
    isplitl [Hkn]; · iexact Hkn
    isplitl [Hs] <;> iassumption
  iintro ⟨Hp, HO⟩
  iapply Hk
  isplitr [HO]
  · isplitl [Hb]; · iexact Hb
    isplitl [Hp]; · iexact Hp
    isplitl [Hf] <;> iassumption
  iexact HO

theorem wp_step1 (s : Fin 14) (K : TP F) (Q : PUnit → sProp 𝕄) (l : List Ob) (hl : Above (2 * s.val + 2) (oRsr d s.succ 1 :: l)) :
    iprop(recs I κ ν ∗ inp I c ∗ RS c d 1 s.val ∗ know c d s.val ∗ O c (oRsr d s.succ 1 :: l))
      ⊢ iprop(((inp I c ∗ RS c d 1 (s.val + 1) ∗ O c l) -∗ WP c K Q) -∗ WP c (rsStep1 xM wM c d s K) Q) := by
  unfold rsStep1
  iintro ⟨#HR, Hi, Hrs, Hkn, HO⟩ Hk
  iapply (wp_rsMid I κ ν c d 1 s _ Q _ hl) $$ [Hi Hrs HO]
  · isplitr; · iexact HR
    isplitl [Hi]; · iexact Hi
    isplitl [Hrs] <;> iassumption
  iintro ⟨Hi, Hb, Hf, Hrd, Hs, HO⟩
  iapply (wp_rsNext I κ ν c d 1 s K Q l) $$ [Hkn Hb Hf Hrd Hs HO]
  · isplitr; · iexact HR
    isplitl [Hkn]; · iexact Hkn
    isplitl [Hb]; · iexact Hb
    isplitl [Hf]; · iexact Hf
    isplitl [Hrd]; · iexact Hrd
    isplitl [Hs] <;> iassumption
  iintro ⟨Hrs, HO⟩
  iapply Hk
  isplitl [Hi]; · iexact Hi
  isplitl [Hrs] <;> iassumption

theorem wp_step0 (s : Fin 14) (K : TP F) (Q : PUnit → sProp 𝕄) (l : List Ob) (hl : Above (2 * s.val + 2) (oRsr d s.succ 0 :: l)) :
    iprop(recs I κ ν ∗ inp I c ∗ RS c d 0 s.val ∗ CWs c d s.val ∗ O c (oRsr d s.succ 0 :: l))
      ⊢ iprop(((inp I c ∗ RS c d 0 (s.val + 1) ∗ CWs c d (s.val + 1) ∗ know c d s.val ∗ O c l) -∗ WP c K Q) -∗ WP c (rsStep0 xM wM c d s K) Q) := by
  unfold rsStep0
  iintro ⟨#HR, Hi, Hrs, Hcw, HO⟩ Hk
  iapply (wp_rsMid I κ ν c d 0 s _ Q _ hl) $$ [Hi Hrs HO]
  · isplitr; · iexact HR
    isplitl [Hi]; · iexact Hi
    isplitl [Hrs] <;> iassumption
  iintro ⟨Hi, Hb, Hf, Hrd, Hs, HO⟩
  by_cases h : 1 ≤ s.val
  · rw [if_pos h]
    unfold CWs
    rw [show from' (fun j : Fin 13 => (cred (tallyAt (cell c (some (.cred d))) j.val 1) : sProp 𝕄)) (s.val - 1) = _ from
      from_peel _ (⟨s.val - 1, by omega⟩ : Fin 13), show s.val + 1 - 1 = s.val - 1 + 1 from by omega]
    unfold credWait
    icases Hcw with ⟨Hcw, Hc, Hcf⟩
    iapply (wp_credWait I κ ν c d (s.val - 1) (by omega) (K := fun _ => rsSend c d s.succ 0 K) _ (2 * s.val + 2) (by omega) hl) $$ [Hc Hcw HO]
    · isplitr; · iexact HR
      isplitl [Hc]; · iexact Hc
      isplitl [Hcw] <;> iassumption
    iintro ⟨Hcw, #Hkn, HO⟩
    ihave #Hkn := (show credPay (F := F) c d (s.val - 1) ⊢ know c d s.val from by unfold know; rw [if_neg (by omega)]) $$ Hkn
    iapply (wp_rsNext I κ ν c d 0 s K Q l) $$ [Hb Hf Hrd Hs HO]
    · isplitr; · iexact HR
      isplitr; · iexact Hkn
      isplitl [Hb]; · iexact Hb
      isplitl [Hf]; · iexact Hf
      isplitl [Hrd]; · iexact Hrd
      isplitl [Hs] <;> iassumption
    iintro ⟨Hrs, HO⟩
    iapply Hk
    isplitl [Hi]; · iexact Hi
    isplitl [Hrs]; · iexact Hrs
    isplitl [Hcw Hcf]
    · isplitl [Hcw] <;> iassumption
    isplitr; · iexact Hkn
    iexact HO
  · rw [if_neg h]
    have h0 : s.val = 0 := by omega
    ihave #Hkn := (show (emp : sProp 𝕄) ⊢ know c d s.val from by unfold know; rw [if_pos h0]) $$ []
    · iempintro
    iapply (wp_rsNext I κ ν c d 0 s K Q l) $$ [Hb Hf Hrd Hs HO]
    · isplitr; · iexact HR
      isplitr; · iexact Hkn
      isplitl [Hb]; · iexact Hb
      isplitl [Hf]; · iexact Hf
      isplitl [Hrd]; · iexact Hrd
      isplitl [Hs] <;> iassumption
    iintro ⟨Hrs, HO⟩
    iapply Hk
    isplitl [Hi]; · iexact Hi
    isplitl [Hrs]; · iexact Hrs
    isplitl [Hcw]
    · iapply (show CWs (F := F) c d s.val ⊢ CWs c d (s.val + 1) from by rw [h0]; exact .rfl); iexact Hcw
    isplitr; · iexact Hkn
    iexact HO

/-- What the freed slots let a device tell the neighbour that fills them. -/
theorem rd_credPay (s : ℕ) (hs : s ≤ 12) :
    iprop(rd (F := F) c d 0 (s + 1) ∗ rd c d 1 (s + 1)) ⊢ iprop(credPay (src d c) d s ∗ rd c d 0 (s + 1) ∗ rd c d 1 (s + 1)) := by
  unfold rd credPay
  rw [if_pos (by omega), if_pos (by omega), show dst d (src d c) = c from dst_dst d c]
  have hset : (Finset.univ : Finset (Fin 2 × Fin 2)) = insert (0, 0) (insert (1, 0) (insert (0, 1) {(1, 1)})) := by decide
  have hb : (bigSep Finset.univ fun x : Fin 2 × Fin 2 => rel (F := F) (Key.mk c d x.1 x.2) (freed x.1 (s + 1)))
      = iprop(rel (Key.mk c d 0 0) (freed 0 (s + 1)) ∗ rel (Key.mk c d 1 0) (freed 1 (s + 1)) ∗ rel (Key.mk c d 0 1) (freed 0 (s + 1))
        ∗ rel (Key.mk c d 1 1) (freed 1 (s + 1))) := by
    rw [hset, bigSep_insert (by decide), bigSep_insert (by decide), bigSep_insert (by decide), bigSep_singleton]; rfl
  rw [hb]
  iintro ⟨⟨⟨H1, #R1⟩, ⟨H2, #R2⟩⟩, ⟨⟨H3, #R3⟩, ⟨H4, #R4⟩⟩⟩
  isplitr
  · isplitr; · iexact R1
    isplitr; · iexact R2
    isplitr; · iexact R3
    iexact R4
  isplitl [H1 H2]
  · isplitl [H1]
    · isplitl [H1]; · iexact H1
      iexact R1
    isplitl [H2]; · iexact H2
    iexact R2
  isplitl [H3]
  · isplitl [H3]; · iexact H3
    iexact R3
  isplitl [H4]; · iexact H4
  iexact R4

/-- Granting the credit of a step. -/
theorem wp_grant (s : ℕ) (hs : s ≤ 12) (K : TP F) (Q : PUnit → sProp 𝕄) (l : List Ob) :
    iprop(recs I κ ν ∗ RS c d 0 (s + 1) ∗ RS c d 1 (s + 1) ∗ toks c d s ∗ O c (oCred d s :: l))
      ⊢ iprop(((RS c d 0 (s + 1) ∗ RS c d 1 (s + 1) ∗ toks c d (s + 1) ∗ O c l) -∗ WP c K Q) -∗ WP c (credSignal c d K) Q) := by
  unfold RS toks credSignal
  rw [show from' (fun j : Fin 13 => (dutyTok ER (cell (src d c) (some (.cred d))) 0 j.val : sProp 𝕄)) s = _ from from_peel _ (⟨s, by omega⟩ : Fin 13)]
  iintro ⟨#HR, ⟨A1, A2, A3, A4⟩, ⟨B1, B2, B3, B4⟩, ⟨Ht, Htf⟩, HO⟩ Hk
  icombine A4 B4 as H
  ihave H := (rd_credPay c d s hs) $$ H
  icases H with ⟨Hp, A4, B4⟩
  ihave Hp := (show credPay (F := F) (src d c) d s ⊢ payK I (dst (!d) c) (some (.cred d)) s from .rfl) $$ Hp
  iapply (wp_sig I κ ν c (!d) (some (.cred d)) (credSem d) rfl s (show s < 13 by omega) rfl s (K := fun _ => K) l) $$ [Ht Hp HO]
  · isplitr; · iexact HR
    isplitl [Ht]; · iexact Ht
    isplitl [Hp]; · iexact Hp
    iexact HO
  iintro HO
  iapply Hk
  isplitl [A1 A2 A3 A4]
  · isplitl [A1]; · iexact A1
    isplitl [A2]; · iexact A2
    isplitl [A3] <;> iassumption
  isplitl [B1 B2 B3 B4]
  · isplitl [B1]; · iexact B1
    isplitl [B2]; · iexact B2
    isplitl [B3] <;> iassumption
  isplitl [Htf]; · iexact Htf
  iexact HO

end Rs

section Loop
variable (I : Ins F) (κ : Dev nD × Kind → ℕ) (ν : Key → ℕ) (c : Dev nD)

/-- Everything a device holds for the reduce-scatter at the start of step `s`. -/
def RSA (s : ℕ) : sProp 𝕄 :=
  iprop(inp I c ∗ quad (fun d u => RS (F := F) c d u s) ∗ (CWs c false s ∗ CWs c true s) ∗ (toks c false s ∗ toks c true s))

theorem wp_rsStep (s : Fin 14) (K : TP F) (Q : PUnit → sProp 𝕄) (l : List Ob)
    (hl : Above (2 * s.val + 2) (four (fun d u => oRsr d s.succ u) (if s.val ≤ 12 then oCred false s.val :: oCred true s.val :: l else l))) :
    iprop(recs I κ ν ∗ RSA I c s.val ∗ O c (four (fun d u => oRsr d s.succ u) (if s.val ≤ 12 then oCred false s.val :: oCred true s.val :: l else l)))
      ⊢ iprop(((RSA I c (s.val + 1) ∗ O c l) -∗ WP c K Q) -∗ WP c (rsStep xM wM c s K) Q) := by
  unfold rsStep RSA four quad
  unfold four at hl
  iintro ⟨#HR, ⟨Hi, ⟨R00, R10, R01, R11⟩, ⟨C0, C1⟩, ⟨T0, T1⟩⟩, HO⟩ Hk
  iapply (wp_step0 I κ ν c false s _ Q _ hl) $$ [Hi R00 C0 HO]
  · isplitr; · iexact HR
    isplitl [Hi]; · iexact Hi
    isplitl [R00]; · iexact R00
    isplitl [C0] <;> iassumption
  iintro ⟨Hi, R00, C0, Hk0, HO⟩
  iapply (wp_step0 I κ ν c true s _ Q _ hl.tail) $$ [Hi R10 C1 HO]
  · isplitr; · iexact HR
    isplitl [Hi]; · iexact Hi
    isplitl [R10]; · iexact R10
    isplitl [C1] <;> iassumption
  iintro ⟨Hi, R10, C1, Hk1, HO⟩
  iapply (wp_step1 I κ ν c false s _ Q _ hl.tail.tail) $$ [Hi R01 Hk0 HO]
  · isplitr; · iexact HR
    isplitl [Hi]; · iexact Hi
    isplitl [R01]; · iexact R01
    isplitl [Hk0] <;> iassumption
  iintro ⟨Hi, R01, HO⟩
  iapply (wp_step1 I κ ν c true s _ Q _ hl.tail.tail.tail) $$ [Hi R11 Hk1 HO]
  · isplitr; · iexact HR
    isplitl [Hi]; · iexact Hi
    isplitl [R11]; · iexact R11
    isplitl [Hk1] <;> iassumption
  iintro ⟨Hi, R11, HO⟩
  by_cases h : s.val ≤ 12
  · rw [if_pos h, if_pos h]
    iapply (wp_grant I κ ν c false s.val h _ Q _) $$ [R00 R01 T0 HO]
    · isplitr; · iexact HR
      isplitl [R00]; · iexact R00
      isplitl [R01]; · iexact R01
      isplitl [T0] <;> iassumption
    iintro ⟨R00, R01, T0, HO⟩
    iapply (wp_grant I κ ν c true s.val h _ Q _) $$ [R10 R11 T1 HO]
    · isplitr; · iexact HR
      isplitl [R10]; · iexact R10
      isplitl [R11]; · iexact R11
      isplitl [T1] <;> iassumption
    iintro ⟨R10, R11, T1, HO⟩
    iapply Hk
    isplitr [HO]
    · isplitl [Hi]; · iexact Hi
      isplitl [R00 R10 R01 R11]
      · isplitl [R00]; · iexact R00
        isplitl [R10]; · iexact R10
        isplitl [R01] <;> iassumption
      isplitl [C0 C1]
      · isplitl [C0] <;> iassumption
      isplitl [T0] <;> iassumption
    iexact HO
  · rw [if_neg h, if_neg h]
    iapply Hk
    isplitr [HO]
    · isplitl [Hi]; · iexact Hi
      isplitl [R00 R10 R01 R11]
      · isplitl [R00]; · iexact R00
        isplitl [R10]; · iexact R10
        isplitl [R01] <;> iassumption
      isplitl [C0 C1]
      · isplitl [C0] <;> iassumption
      unfold toks
      rw [from_none _ _ (show 13 ≤ s.val + 1 by omega), from_none _ _ (show 13 ≤ s.val + 1 by omega)]
      isplitr <;> iempintro
    iexact HO

theorem wp_rsLoop (K : TP F) (Q : PUnit → sProp 𝕄) : ∀ (n s : ℕ) (h : s + n = 14),
    iprop(recs I κ ν ∗ RSA I c s ∗ O c (owedRs n s h))
      ⊢ iprop(((RSA I c 14 ∗ O c owedAg0) -∗ WP c K Q) -∗ WP c (rsLoop xM wM c n s h K) Q)
  | 0, s, h => by
    obtain rfl : s = 14 := by omega
    unfold rsLoop owedRs
    iintro ⟨-, H1, H2⟩ Hk
    iapply Hk
    isplitl [H1] <;> iassumption
  | n + 1, s, h => by
    have hl := above_rs (n + 1) s h
    unfold owedRs at hl ⊢
    unfold rsLoop
    have hs := wp_rsStep I κ ν c ⟨s, by omega⟩ (rsLoop xM wM c n (s + 1) (by omega) K) Q (owedRs n (s + 1) (by omega)) hl
    have hn := wp_rsLoop K Q n (s + 1) (by omega)
    simp only at hs
    iintro ⟨#HR, H1, HO⟩ Hk
    iapply hs $$ [H1 HO]
    · isplitr; · iexact HR
      isplitl [H1] <;> iassumption
    iintro ⟨H1, HO⟩
    iapply hn $$ [H1 HO]
    · isplitr; · iexact HR
      isplitl [H1] <;> iassumption
    iexact Hk

end Loop

end Cert.RingProof

end
-- ==== Proof.Gather.lean ====
/-
The last round of the reduce-scatter and the all-gather.
-/
module

public import proofs.«01_k».proof.Proof.Loop

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Ag
variable (I : Ins F) (κ : Dev nD × Kind → ℕ) (ν : Key → ℕ) (c : Dev nD) (d : Bool) (u : Fin 2)

/-- What a transfer of the all-gather has left behind, what it holds while under way, what it needs to start. -/
def agPast (k : Fin 15) : sProp 𝕄 :=
  iprop(semVal (cell c (some (.ags d k u))) 0 ∗ semVal (cell c (some (.agr d k u))) 0 ∗ agsPay I c d k u)
def agPres (k : Fin 15) : sProp 𝕄 :=
  iprop(atPos ER (cell c (some (.ags d k u))) 0 ∅ 0 ∗ atPos ER (cell c (some (.agr d k u))) 0 ∅ 0
    ∗ cred (tallyAt (cell c (some (.agr d k u))) 0 N) ∗ cred (tallyAt (cell c (some (.ags d k u))) 0 N))
def agRest (k : Fin 15) : sProp 𝕄 :=
  iprop(atPos ER (cell c (some (.ags d k u))) 0 ∅ 0 ∗ atPos ER (cell c (some (.agr d k u))) 0 ∅ 0
    ∗ cred (tallyAt (cell c (some (.agr d k u))) 0 N)
    ∗ dutyTok ER (cell c (some (.ags d k u))) 0 0 ∗ dutyTok ER (cell (dst d c) (some (.agr d k u))) 0 0
    ∗ any (dst d c) (piece d (gidx c d k.castSucc) u))

def AG (t : ℕ) : sProp 𝕄 :=
  iprop(below (agPast (F := F) I c d u) t ∗ (if h : t < 15 then agPres c d u ⟨t, h⟩ else iprop(emp)) ∗ from' (agRest (F := F) c d u) (t + 1))

/-- A ring's sub-block when its reduce-scatter is over. -/
def rsDone : sProp 𝕄 :=
  iprop(bigSep Finset.univ (rsPast (F := F) c d u) ∗ any c (recvV d 0 u) ∗ any c (recvV d 1 u) ∗ any c (sendV d u))
/-- What it holds of the staging buffer, the all-gather and the local copy before its last round, -/
def lastPre : sProp 𝕄 :=
  iprop(any c (stgV d u) ∗ from' (agRest (F := F) c d u) 0
    ∗ atPos ER (cell c (some (.st d u))) 0 ∅ 0 ∗ dutyTok ER (cell c (some (.st d u))) 0 0 ∗ any c (piece d (gidx c d 0) u))
/-- and of the local copy while it is under way. -/
def stPre : sProp 𝕄 := iprop(atPos ER (cell c (some (.st d u))) 0 ∅ 0 ∗ cred (tallyAt (cell c (some (.st d u))) 0 N))

theorem dma_ags (k : Fin 15) : IsDma (.ags d k u) := ⟨rfl, rfl⟩
theorem dma_agr (k : Fin 15) : IsDma (.agr d k u) := ⟨rfl, rfl⟩
theorem dma_st : IsDma (.st d u) := ⟨rfl, rfl⟩
theorem credit_out (t : Fin 15) : (outV c d t u).view.dmaCredit = N := by cases d <;> rfl
theorem credit_stg : (stgV d u).view.dmaCredit = N := rfl

theorem FP_own : FP I d (gidx c d 0) u = FN I d u c := by unfold FP; rw [owner_gidx]

theorem out_any (c' : Dev nD) (t : Fin 15) : any (F := F) c' (piece d (gidx c d t.castSucc) u) ⊢ any c' (outV c d t u) := by rw [outV_eq]
theorem out_has (c' : Dev nD) (t : Fin 15) (X : S128x4096.Idx → Elt F .f32) : has c' (piece d (gidx c d t.castSucc) u) X ⊢ has (F := F) c' (outV c d t u) X := by rw [outV_eq]
theorem has_out (c' : Dev nD) (t : Fin 15) (X : S128x4096.Idx → Elt F .f32) : has (F := F) c' (outV c d t u) X ⊢ has c' (piece d (gidx c d t.castSucc) u) X := by rw [outV_eq]

theorem lands (t : Fin 15) :
    (has (dst d c) (outV c d t u) (FP I d (gidx c d t.castSucc) u) : sProp 𝕄) ⊢ ownPay I (dst d c) (.agr d t u) 0 := by
  show _ ⊢ has (dst d c) (piece d (gidx (dst d c) d t.succ) u) (FP I d (gidx (dst d c) d t.succ) u)
  rw [gidx_succ]; exact has_out c d u _ t _

theorem stg_halves (X : S128x4096.Idx → Elt F .f32) :
    has c (stgV d u) X ⊢ iprop(owns (c : Thread nD τ) (stgV d u) fullShare.left X ∗ owns (c : Thread nD τ) (stgV d u) fullShare.right X) :=
  (owns_halves (c : Thread nD τ) (stgV d u) fullShare X).1

/-- The last round of the reduce-scatter, with the two copies of the finished piece. -/
theorem wp_rsLast (K : TP F) (Q : PUnit → sProp 𝕄) (l : List Ob) (hl : Above 30 (oAgr d 0 u :: l)) :
    iprop(recs I κ ν ∗ inp I c ∗ RS c d u 14 ∗ lastPre c d u ∗ O c (oAgr d 0 u :: l))
      ⊢ iprop(((inp I c ∗ rsDone c d u ∗ AG I c d u 0 ∗ stPre c d u ∗ O c l) -∗ WP c K Q) -∗ WP c (rsLast sxM swM xM wM c d u K) Q) := by
  unfold RS lastPre rsDone AG stPre rsLast
  rw [dif_pos (show 14 < 15 by decide), dif_pos (show 0 < 15 by decide), below_zero,
    show from' (agRest (F := F) c d u) 0 = _ from from_peel _ (0 : Fin 15)]
  have hbt := below_push (rsPast (F := F) c d u) (14 : Fin 15)
  have hw := fun K' => wp_rsWaits I κ ν c d u 14 K' Q (oAgr d 0 u :: l) hl
  have hFN : ∀ R : Vec F S1x1x128x4096 .i32, shapeCast S128x4096 R shapeCasts_S1x1x128x4096_S128x4096 = PS I d u 14 (src d c) →
      stgPay (F := F) R (xM.view.readAt (Elt F) (xR c d 15 u).toLoadRect (I.x c)) (wM.view.readAt (Elt F) (wR d).toLoadRect (I.w c)) (sxAt I c) (swAt I c)
        = shapeCast S1x128x4096 (FN I d u c) shapeCasts_S128x4096_S1x128x4096 := by
    intro R hR
    unfold stgPay accum
    rw [hR]; rfl
  iintro ⟨#HR, Hi, ⟨Hb, Hp, -, Hrd⟩, ⟨Hst, ⟨Hr0, Hrf⟩, Ha, Ht, Hpc⟩, HO⟩ Hk
  iapply (hw _) $$ [Hp HO]
  · isplitr; · iexact HR
    isplitl [Hp]; · iexact Hp
    iexact HO
  iintro ⟨Hz, Hs, Hr, HO⟩
  unfold inp
  icases Hi with ⟨Hsx, Hsw, Hx, Hw⟩
  ihave Hr := (show has (F := F) c (recvV d (par (14 : Fin 15).val) u) (PS I d u (14 : Fin 15).val (src d c)) ⊢ has c (recvV d 0 u) (PS I d u 14 (src d c)) from .rfl) $$ Hr
  iapply (wp_ldRecv c d u 0 (PS I d u 14 (src d c))) $$ Hr
  iintro %R ⟨%hR, Hr⟩
  iapply (wp_ldWhole c xM (I.x c)) $$ Hx
  iintro Hx
  iapply (wp_ldWhole c wM (I.w c)) $$ Hw
  iintro Hw
  iapply (wp_ldWhole c sxM (I.sx c)) $$ Hsx
  iintro Hsx
  iapply (wp_ldWhole c swM (I.sw c)) $$ Hsw
  iintro Hsw
  iapply (wp_ldStg c d u) $$ Hst
  iintro %R' Hst
  have hval := hFN R hR
  unfold sxAt swAt one0 at hval
  rw [hval]
  iapply (wp_stStg c d u (FN I d u c)) $$ Hst
  iintro Hst
  ihave Hst := (stg_halves c d u (FN I d u c)) $$ Hst
  icases Hst with ⟨HsL, HsR⟩
  unfold agRest
  icases Hr0 with ⟨Ga1, Ga2, Gc, Gt1, Gt2, Gp⟩
  ihave Gp := (out_any c d u (dst d c) 0) $$ Gp
  iapply (wp_send I κ ν c (dst d c) (.ags d 0 u) (.agr d 0 u) (dma_ags d u 0) (dma_agr d u 0) (ags d 0 u) (agr d 0 u) rfl rfl d rfl
    (a := stgV d u) (b := outV c d 0 u) (credit_out c d u 0) fullShare.left (FN I d u c) .rfl
    (by rw [← FP_own]; exact lands I c d u 0) (K := fun _ => _) l) $$ [HsL Gp Gt1 Gt2 HO]
  · isplitr; · iexact HR
    isplitl [HsL]; · iexact HsL
    isplitl [Gp]; · iexact Gp
    isplitl [Gt1]; · iexact Gt1
    isplitl [Gt2]; · iexact Gt2
    iexact HO
  iintro ⟨Gc', HO⟩
  ihave Hpc := (show any (F := F) c (piece d (gidx c d 0) u) ⊢ any c (outV c d 0 u) from out_any c d u c 0) $$ Hpc
  iapply (wp_copy I κ ν c (.st d u) (dma_st d u) (stS d u) rfl (a := stgV d u) (b := outV c d 0 u) (credit_out c d u 0) fullShare.right (FN I d u c)
    (by
      show _ ⊢ iprop(has c (piece d (gidx c d 0) u) (FP I d (gidx c d 0) u) ∗ owns (c : Thread nD τ) (stgV d u) fullShare.right (FN I d u c))
      rw [FP_own]
      iintro ⟨H1, H2⟩
      isplitl [H1]
      · iapply (has_out c d u c 0 (FN I d u c)); iexact H1
      iexact H2) (K := fun _ => K)) $$ [HsR Hpc Ht]
  · isplitr; · iexact HR
    isplitl [HsR]; · iexact HsR
    isplitl [Hpc] <;> iassumption
  iintro Hc
  iapply Hk
  isplitl [Hsx Hsw Hx Hw]
  · isplitl [Hsx]; · iexact Hsx
    isplitl [Hsw]; · iexact Hsw
    isplitl [Hx] <;> iassumption
  isplitl [Hz Hb Hr Hrd Hs]
  · isplitl [Hz Hb]
    · rw [← below_top, show below (rsPast (F := F) c d u) 15 = _ from hbt]
      isplitl [Hz]; · iexact Hz
      iexact Hb
    isplitl [Hr]
    · iapply (has_any c (recvV d 0 u) _); iexact Hr
    isplitl [Hrd]
    · iapply (show rd (F := F) c d u 14 ⊢ any c (recvV d 1 u) from by unfold rd; rw [if_neg (by decide)]); iexact Hrd
    iapply (has_any c (sendV d u) _); iexact Hs
  isplitl [Ga1 Ga2 Gc Gc' Hrf]
  · isplitr; · iempintro
    isplitr [Hrf]
    · iapply (show iprop(atPos ER (cell c (some (.ags d 0 u))) 0 ∅ 0 ∗ atPos ER (cell c (some (.agr d 0 u))) 0 ∅ 0
        ∗ cred (tallyAt (cell c (some (.agr d 0 u))) 0 N) ∗ cred (tallyAt (cell c (some (.ags d 0 u))) 0 N)) ⊢ agPres (F := F) c d u ⟨0, Nat.succ_pos 14⟩ from .rfl)
      isplitl [Ga1]; · iexact Ga1
      isplitl [Ga2]; · iexact Ga2
      isplitl [Gc] <;> iassumption
    iexact Hrf
  isplitl [Ha Hc]
  · isplitl [Ha] <;> iassumption
  iexact HO

/-- A transfer that has left and the neighbour's that has landed: what is left is to pass it on. -/
def agMid (t : Fin 15) : sProp 𝕄 :=
  iprop(below (agPast (F := F) I c d u) (t.val + 1) ∗ from' (agRest (F := F) c d u) (t.val + 1)
    ∗ has c (piece d (gidx c d t.succ) u) (FP I d (gidx c d t.succ) u))

/-- The waits of a transfer, whatever memrefs they name. -/
theorem wp_agWaits (t : Fin 15) {sp sp' sq sq' : Space} {s1 s2 : Shape} {e1 e2 : EltTy} {a : Memref sig .tc sp s1 e1} {b : Memref sig .tc sp' s1 e1}
    {a' : Memref sig .tc sq s2 e2} {b' : Memref sig .tc sq' s2 e2}
    {h1 : a.view.WordExact} {h2 : b.view.WordExact} {h3 : a'.view.WordExact} {h4 : b'.view.WordExact}
    (hN : b.view.dmaCredit = N) (hN' : b'.view.dmaCredit = N) (K : TP F) (Q : PUnit → sProp 𝕄) (l : List Ob) (hl : Above (40 + t.val) l) :
    iprop(recs I κ ν ∗ AG I c d u t.val ∗ O c l)
      ⊢ iprop(((agMid I c d u t ∗ O c l) -∗ WP c K Q)
        -∗ WP c (.op (.waitDma2 (ags d t u) a b h1 h2) fun _ => .op (.waitDma2 (agr d t u) a' b' h3 h4) fun _ => K) Q) := by
  unfold AG agMid
  rw [dif_pos t.isLt, show below (agPast (F := F) I c d u) (t.val + 1) = _ from below_push _ t]
  unfold agPres
  iintro ⟨#HR, ⟨Hb, ⟨Ha1, Ha2, Hc2, Hc1⟩, Hf⟩, HO⟩ Hk
  iapply (wp_waitDma I κ ν c (.ags d t u) (dma_ags d u t) (ags d t u) rfl (a := a) (b := b) hN l (40 + t.val) (Nat.zero_le _) hl) $$ [Ha1 Hc1 HO]
  · isplitr; · iexact HR
    isplitl [Hc1]; · iexact Hc1
    isplitl [Ha1] <;> iassumption
  iintro ⟨Hz1, Hp1, HO⟩
  iapply (wp_waitDma I κ ν c (.agr d t u) (dma_agr d u t) (agr d t u) rfl (a := a') (b := b') hN' l (40 + t.val) (le_refl _) hl) $$ [Ha2 Hc2 HO]
  · isplitr; · iexact HR
    isplitl [Hc2]; · iexact Hc2
    isplitl [Ha2] <;> iassumption
  iintro ⟨Hz2, Hp2, HO⟩
  ihave Hp1 := (show ownPay I c (.ags d t u) 0 ⊢ agsPay I c d t u from .rfl) $$ Hp1
  ihave Hp2 := (show ownPay I c (.agr d t u) 0 ⊢ has c (piece d (gidx c d t.succ) u) (FP I d (gidx c d t.succ) u) from .rfl) $$ Hp2
  iapply Hk
  isplitr [HO]
  · isplitl [Hz1 Hz2 Hp1 Hb]
    · unfold agPast
      isplitr [Hb]
      · isplitl [Hz1]; · iexact Hz1
        isplitl [Hz2] <;> iassumption
      iexact Hb
    isplitl [Hf] <;> iassumption
  iexact HO

theorem wp_agWait0 (K : TP F) (Q : PUnit → sProp 𝕄) (l : List Ob) (hl : Above 40 l) :
    iprop(recs I κ ν ∗ AG I c d u 0 ∗ O c l) ⊢ iprop(((agMid I c d u 0 ∗ O c l) -∗ WP c K Q) -∗ WP c (agWait0 c d u K) Q) :=
  wp_agWaits I κ ν c d u 0 (credit_stg d u) (credit_out c d u 0) K Q l hl
theorem wp_agWait (t : Fin 15) (K : TP F) (Q : PUnit → sProp 𝕄) (l : List Ob) (hl : Above (40 + t.val) l) :
    iprop(recs I κ ν ∗ AG I c d u t.val ∗ O c l) ⊢ iprop(((agMid I c d u t ∗ O c l) -∗ WP c K Q) -∗ WP c (agWait c d t u K) Q) :=
  wp_agWaits I κ ν c d u t (credit_out c d u t) (credit_out c d u t) K Q l hl

/-- Passing a piece on. -/
theorem wp_agSend (t : Fin 14) (K : TP F) (Q : PUnit → sProp 𝕄) (l : List Ob) :
    iprop(recs I κ ν ∗ agMid I c d u t.castSucc ∗ O c (oAgr d t.succ u :: l))
      ⊢ iprop(((AG I c d u (t.val + 1) ∗ O c l) -∗ WP c K Q) -∗ WP c (agSend c d t u K) Q) := by
  unfold AG agMid agSend
  rw [dif_pos (show t.val + 1 < 15 by omega)]
  simp only [Fin.val_castSucc]
  rw [show from' (agRest (F := F) c d u) (t.val + 1) = _ from from_peel _ t.succ]
  unfold agRest
  iintro ⟨#HR, ⟨Hb, ⟨⟨Ga1, Ga2, Gc, Gt1, Gt2, Gp⟩, Hf⟩, Hs⟩, HO⟩ Hk
  ihave Gp := (out_any c d u (dst d c) t.succ) $$ Gp
  ihave Hs := (show has (F := F) c (piece d (gidx c d t.castSucc.succ) u) (FP I d (gidx c d t.castSucc.succ) u)
    ⊢ owns (c : Thread nD τ) (outV c d t.succ u) fullShare (FP I d (gidx c d t.succ.castSucc) u) from out_has c d u c t.succ _) $$ Hs
  iapply (wp_send I κ ν c (dst d c) (.ags d t.succ u) (.agr d t.succ u) (dma_ags d u _) (dma_agr d u _) (ags d t.succ u) (agr d t.succ u) rfl rfl d rfl
    (a := outV c d t.succ u) (b := outV c d t.succ u) (credit_out c d u _) fullShare (FP I d (gidx c d t.succ.castSucc) u)
    (by
      show has (F := F) c (outV c d t.succ u) (FP I d (gidx c d t.succ.castSucc) u) ⊢ agsPay I c d t.succ u
      unfold agsPay
      rw [if_neg (Fin.succ_ne_zero t)]
      exact has_out c d u c t.succ _)
    (lands I c d u t.succ) (K := fun _ => K) l) $$ [Hs Gp Gt1 Gt2 HO]
  · isplitr; · iexact HR
    isplitl [Hs]; · iexact Hs
    isplitl [Gp]; · iexact Gp
    isplitl [Gt1]; · iexact Gt1
    isplitl [Gt2]; · iexact Gt2
    iexact HO
  iintro ⟨Gc', HO⟩
  iapply Hk
  isplitr [HO]
  · isplitl [Hb]; · iexact Hb
    isplitr [Hf]
    · iapply (show iprop(atPos ER (cell c (some (.ags d t.succ u))) 0 ∅ 0 ∗ atPos ER (cell c (some (.agr d t.succ u))) 0 ∅ 0
        ∗ cred (tallyAt (cell c (some (.agr d t.succ u))) 0 N) ∗ cred (tallyAt (cell c (some (.ags d t.succ u))) 0 N)) ⊢ agPres (F := F) c d u ⟨t.val + 1, Nat.succ_lt_succ t.isLt⟩ from .rfl)
      isplitl [Ga1]; · iexact Ga1
      isplitl [Ga2]; · iexact Ga2
      isplitl [Gc] <;> iassumption
    iexact Hf
  iexact HO

/-- The wait for the local copy. -/
theorem wp_stWait (K : TP F) (Q : PUnit → sProp 𝕄) (l : List Ob) (hl : Above 0 l) :
    iprop(recs I κ ν ∗ stPre c d u ∗ O c l)
      ⊢ iprop(((semVal (cell c (some (.st d u))) 0 ∗ has c (piece d (gidx c d 0) u) (FP I d (gidx c d 0) u)
          ∗ owns (c : Thread nD τ) (stgV d u) fullShare.right (FN I d u c) ∗ O c l) -∗ WP c K Q) -∗ WP c (stWait c d u K) Q) := by
  unfold stPre stWait
  iintro ⟨#HR, ⟨Ha, Hc⟩, HO⟩ Hk
  iapply (wp_waitDma I κ ν c (.st d u) (dma_st d u) (stS d u) rfl (a := stgV d u) (b := outV c d 0 u) (credit_out c d u 0) l 0 (le_refl _) hl) $$ [Ha Hc HO]
  · isplitr; · iexact HR
    isplitl [Hc]; · iexact Hc
    isplitl [Ha] <;> iassumption
  iintro ⟨Hz, Hp, HO⟩
  ihave Hp := (show ownPay I c (.st d u) 0 ⊢ iprop(has c (piece d (gidx c d 0) u) (FP I d (gidx c d 0) u)
      ∗ owns (c : Thread nD τ) (stgV d u) fullShare.right (FN I d u c)) from .rfl) $$ Hp
  icases Hp with ⟨Hp1, Hp2⟩
  iapply Hk
  isplitl [Hz]; · iexact Hz
  isplitl [Hp1]; · iexact Hp1
  isplitl [Hp2] <;> iassumption

end Ag

section AgLoop
variable (I : Ins F) (κ : Dev nD × Kind → ℕ) (ν : Key → ℕ) (c : Dev nD)

def AGA (t : ℕ) : sProp 𝕄 := quad fun d u => AG I c d u t

theorem wp_agFirst (K : TP F) (Q : PUnit → sProp 𝕄) (l : List Ob) (hl : Above 40 (four (fun d u => oAgr d (Fin.succ (0 : Fin 14)) u) l)) :
    iprop(recs I κ ν ∗ AGA I c 0 ∗ O c (four (fun d u => oAgr d (Fin.succ (0 : Fin 14)) u) l))
      ⊢ iprop(((AGA I c 1 ∗ O c l) -∗ WP c K Q) -∗ WP c (agFirst c K) Q) := by
  unfold agFirst AGA quad four
  unfold four at hl
  iintro ⟨#HR, ⟨R00, R10, R01, R11⟩, HO⟩ Hk
  iapply (wp_agWait0 I κ ν c false 0 _ Q _ hl) $$ [R00 HO]
  · isplitr; · iexact HR
    isplitl [R00] <;> iassumption
  iintro ⟨R00, HO⟩
  iapply (wp_agSend I κ ν c false 0 0 _ Q _) $$ [R00 HO]
  · isplitr; · iexact HR
    isplitl [R00]; · iexact R00
    iexact HO
  iintro ⟨R00, HO⟩
  iapply (wp_agWait0 I κ ν c true 0 _ Q _ hl.tail) $$ [R10 HO]
  · isplitr; · iexact HR
    isplitl [R10] <;> iassumption
  iintro ⟨R10, HO⟩
  iapply (wp_agSend I κ ν c true 0 0 _ Q _) $$ [R10 HO]
  · isplitr; · iexact HR
    isplitl [R10]; · iexact R10
    iexact HO
  iintro ⟨R10, HO⟩
  iapply (wp_agWait0 I κ ν c false 1 _ Q _ hl.tail.tail) $$ [R01 HO]
  · isplitr; · iexact HR
    isplitl [R01] <;> iassumption
  iintro ⟨R01, HO⟩
  iapply (wp_agSend I κ ν c false 1 0 _ Q _) $$ [R01 HO]
  · isplitr; · iexact HR
    isplitl [R01]; · iexact R01
    iexact HO
  iintro ⟨R01, HO⟩
  iapply (wp_agWait0 I κ ν c true 1 _ Q _ hl.tail.tail.tail) $$ [R11 HO]
  · isplitr; · iexact HR
    isplitl [R11] <;> iassumption
  iintro ⟨R11, HO⟩
  iapply (wp_agSend I κ ν c true 1 0 _ Q _) $$ [R11 HO]
  · isplitr; · iexact HR
    isplitl [R11]; · iexact R11
    iexact HO
  iintro ⟨R11, HO⟩
  iapply Hk
  isplitr [HO]
  · isplitl [R00]; · iexact R00
    isplitl [R10]; · iexact R10
    isplitl [R01]; · iexact R01
    iexact R11
  iexact HO

theorem wp_agStep (t : Fin 14) (h1 : 1 ≤ t.val) (K : TP F) (Q : PUnit → sProp 𝕄) (l : List Ob)
    (hl : Above (40 + t.val) (four (fun d u => oAgr d t.succ u) l)) :
    iprop(recs I κ ν ∗ AGA I c t.val ∗ O c (four (fun d u => oAgr d t.succ u) l))
      ⊢ iprop(((AGA I c (t.val + 1) ∗ O c l) -∗ WP c K Q) -∗ WP c (agStep c t h1 K) Q) := by
  unfold agStep AGA quad four
  unfold four at hl
  have hw := fun d u K' => wp_agWait I κ ν c d u t.castSucc K' Q
  simp only [Fin.val_castSucc] at hw
  iintro ⟨#HR, ⟨R00, R10, R01, R11⟩, HO⟩ Hk
  iapply (hw false 0 _ _ hl) $$ [R00 HO]
  · isplitr; · iexact HR
    isplitl [R00] <;> iassumption
  iintro ⟨R00, HO⟩
  iapply (wp_agSend I κ ν c false 0 t _ Q _) $$ [R00 HO]
  · isplitr; · iexact HR
    isplitl [R00]; · iexact R00
    iexact HO
  iintro ⟨R00, HO⟩
  iapply (hw true 0 _ _ hl.tail) $$ [R10 HO]
  · isplitr; · iexact HR
    isplitl [R10] <;> iassumption
  iintro ⟨R10, HO⟩
  iapply (wp_agSend I κ ν c true 0 t _ Q _) $$ [R10 HO]
  · isplitr; · iexact HR
    isplitl [R10]; · iexact R10
    iexact HO
  iintro ⟨R10, HO⟩
  iapply (hw false 1 _ _ hl.tail.tail) $$ [R01 HO]
  · isplitr; · iexact HR
    isplitl [R01] <;> iassumption
  iintro ⟨R01, HO⟩
  iapply (wp_agSend I κ ν c false 1 t _ Q _) $$ [R01 HO]
  · isplitr; · iexact HR
    isplitl [R01]; · iexact R01
    iexact HO
  iintro ⟨R01, HO⟩
  iapply (hw true 1 _ _ hl.tail.tail.tail) $$ [R11 HO]
  · isplitr; · iexact HR
    isplitl [R11] <;> iassumption
  iintro ⟨R11, HO⟩
  iapply (wp_agSend I κ ν c true 1 t _ Q _) $$ [R11 HO]
  · isplitr; · iexact HR
    isplitl [R11]; · iexact R11
    iexact HO
  iintro ⟨R11, HO⟩
  iapply Hk
  isplitr [HO]
  · isplitl [R00]; · iexact R00
    isplitl [R10]; · iexact R10
    isplitl [R01] <;> iassumption
  iexact HO

theorem wp_agLoop (K : TP F) (Q : PUnit → sProp 𝕄) : ∀ (n t : ℕ) (h : t + n = 14) (h1 : 1 ≤ t),
    iprop(recs I κ ν ∗ AGA I c t ∗ O c (owedAg n t h))
      ⊢ iprop(((AGA I c 14 ∗ O c []) -∗ WP c K Q) -∗ WP c (agLoop c n t h h1 K) Q)
  | 0, t, h, h1 => by
    obtain rfl : t = 14 := by omega
    unfold agLoop owedAg
    iintro ⟨-, H1, H2⟩ Hk
    iapply Hk
    isplitl [H1] <;> iassumption
  | n + 1, t, h, h1 => by
    have hl := above_ag (n + 1) t h (40 + t) (le_refl _)
    unfold owedAg at hl ⊢
    unfold agLoop
    have hs := wp_agStep I κ ν c ⟨t, by omega⟩ h1 (agLoop c n (t + 1) (by omega) (by omega) K) Q (owedAg n (t + 1) (by omega)) hl
    have hn := wp_agLoop K Q n (t + 1) (by omega) (by omega)
    simp only at hs
    iintro ⟨#HR, H1, HO⟩ Hk
    iapply hs $$ [H1 HO]
    · isplitr; · iexact HR
      isplitl [H1] <;> iassumption
    iintro ⟨H1, HO⟩
    iapply hn $$ [H1 HO]
    · isplitr; · iexact HR
      isplitl [H1] <;> iassumption
    iexact Hk

/-- The all-gather done. -/
def AGM : sProp 𝕄 := quad fun d u => agMid I c d u 14

theorem wp_agLast (K : TP F) (Q : PUnit → sProp 𝕄) :
    iprop(recs I κ ν ∗ AGA I c 14 ∗ O c []) ⊢ iprop(((AGM I c ∗ O c []) -∗ WP c K Q) -∗ WP c (agLast c K) Q) := by
  unfold agLast AGA AGM quad
  have hw : ∀ d u K', iprop(recs I κ ν ∗ AG I c d u 14 ∗ O c []) ⊢ iprop(((agMid I c d u 14 ∗ O c []) -∗ WP c K' Q) -∗ WP c (agWait c d 14 u K') Q) :=
    fun d u K' => wp_agWait I κ ν c d u 14 K' Q [] .nil
  iintro ⟨#HR, ⟨R00, R10, R01, R11⟩, HO⟩ Hk
  iapply (hw false 0 _) $$ [R00 HO]
  · isplitr; · iexact HR
    isplitl [R00] <;> iassumption
  iintro ⟨R00, HO⟩
  iapply (hw true 0 _) $$ [R10 HO]
  · isplitr; · iexact HR
    isplitl [R10] <;> iassumption
  iintro ⟨R10, HO⟩
  iapply (hw false 1 _) $$ [R01 HO]
  · isplitr; · iexact HR
    isplitl [R01] <;> iassumption
  iintro ⟨R01, HO⟩
  iapply (hw true 1 _) $$ [R11 HO]
  · isplitr; · iexact HR
    isplitl [R11] <;> iassumption
  iintro ⟨R11, HO⟩
  iapply Hk
  isplitr [HO]
  · isplitl [R00]; · iexact R00
    isplitl [R10]; · iexact R10
    isplitl [R01] <;> iassumption
  iexact HO

end AgLoop

end Cert.RingProof

end
-- ==== Proof.Body.lean ====
/-
The whole body: from what a device starts with to what it ends with.
-/
module

public import proofs.«01_k».proof.Proof.Gather

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Start
variable (c : Dev nD) (d : Bool) (u : Fin 2)

/-- What a transfer of the reduce-scatter starts with, apart from the neighbour's slot, -/
def rsHold (k : Fin 15) : sProp 𝕄 :=
  iprop(atPos ER (cell c (some (.rss d k u))) 0 ∅ 0 ∗ atPos ER (cell c (some (.rsr d k u))) 0 ∅ 0
    ∗ cred (tallyAt (cell c (some (.rsr d k u))) 0 N)
    ∗ dutyTok ER (cell c (some (.rss d k u))) 0 0 ∗ dutyTok ER (cell (dst d c) (some (.rsr d k u))) 0 0)
/-- and one of the all-gather, apart from the neighbour's piece. -/
def agHold (k : Fin 15) : sProp 𝕄 :=
  iprop(atPos ER (cell c (some (.ags d k u))) 0 ∅ 0 ∗ atPos ER (cell c (some (.agr d k u))) 0 ∅ 0
    ∗ cred (tallyAt (cell c (some (.agr d k u))) 0 N)
    ∗ dutyTok ER (cell c (some (.ags d k u))) 0 0 ∗ dutyTok ER (cell (dst d c) (some (.agr d k u))) 0 0)

/-- One ring's sub-block at the start. -/
def S1 : sProp 𝕄 :=
  iprop(bigSep Finset.univ (rsHold (F := F) c d u) ∗ from' (fun k : Fin 15 => slotRight (F := F) c d u k.val) 2 ∗ rd c d u 0
    ∗ bigSep Finset.univ (agHold (F := F) c d u) ∗ any c (sendV d u) ∗ any c (stgV d u)
    ∗ atPos ER (cell c (some (.st d u))) 0 ∅ 0 ∗ dutyTok ER (cell c (some (.st d u))) 0 0 ∗ any c (piece d (gidx c d 0) u))

/-- What the entry barrier brings of the neighbour's buffers, for one sub-block. -/
def barU : sProp 𝕄 :=
  iprop(slotRight (F := F) c d u 0 ∗ slotRight c d u 1
    ∗ bigSep Finset.univ fun k : Fin 15 => any (F := F) (dst d c) (piece d (gidx c d k.castSucc) u))

theorem pair2 (Φ : Fin 2 → sProp 𝕄) : bigSep Finset.univ Φ = iprop(Φ 0 ∗ Φ 1) := bigSep_fin_two Φ
theorem pairs (Φ : Fin 2 × Fin 2 → sProp 𝕄) : bigSep Finset.univ Φ = iprop((Φ (0, 0) ∗ Φ (0, 1)) ∗ Φ (1, 0) ∗ Φ (1, 1)) := by
  rw [bigSep_univ_prod, pair2, pair2, pair2]
theorem split2 {A : Type} [Fintype A] [DecidableEq A] (Φ : A × Fin 2 → sProp 𝕄) :
    bigSep Finset.univ Φ = iprop((bigSep Finset.univ fun a => Φ (a, 0)) ∗ bigSep Finset.univ fun a => Φ (a, 1)) := by
  rw [bigSep_univ_prod]
  exact (bigSep_congr fun k _ => bigSep_fin_two _).trans (bigSep_sep' _ _ _)

theorem bar_split : barPay (F := F) c d ⊢ iprop(barU c d 0 ∗ barU c d 1) := by
  unfold barPay barU slotRight
  rw [pairs, split2]
  simp only [if_pos (show (0 : ℕ) ≤ 1 from Nat.zero_le 1), if_pos (show (1 : ℕ) ≤ 1 from Nat.le_refl 1)]
  iintro ⟨⟨⟨H00, H01⟩, H10, H11⟩, P0, P1⟩
  ihave H00 := (show any (F := F) (dst d c) (recvV d 0 0) ⊢ any (dst d c) (recvV d (par 0) 0) from .rfl) $$ H00
  ihave H01 := (show any (F := F) (dst d c) (recvV d 0 1) ⊢ any (dst d c) (recvV d (par 0) 1) from .rfl) $$ H01
  ihave H10 := (show any (F := F) (dst d c) (recvV d 1 0) ⊢ any (dst d c) (recvV d (par 1) 0) from .rfl) $$ H10
  ihave H11 := (show any (F := F) (dst d c) (recvV d 1 1) ⊢ any (dst d c) (recvV d (par 1) 1) from .rfl) $$ H11
  isplitl [H00 H10 P0]
  · isplitl [H00]; · iexact H00
    isplitl [H10] <;> iassumption
  isplitl [H01]; · iexact H01
  isplitl [H11] <;> iassumption

theorem rsHold_rest (k : Fin 15) : iprop(rsHold (F := F) c d u k ∗ slotRight (F := F) c d u k.val) ⊢ rsRest c d u k := by
  unfold rsHold rsRest
  iintro ⟨⟨A, B, C, D, E⟩, G⟩
  isplitl [A]; · iexact A
  isplitl [B]; · iexact B
  isplitl [C]; · iexact C
  isplitl [D]; · iexact D
  isplitl [E] <;> iassumption
theorem agHold_rest (k : Fin 15) : iprop(agHold (F := F) c d u k ∗ any (F := F) (dst d c) (piece d (gidx c d k.castSucc) u)) ⊢ agRest c d u k := by
  unfold agHold agRest
  iintro ⟨⟨A, B, C, D, E⟩, G⟩
  isplitl [A]; · iexact A
  isplitl [B]; · iexact B
  isplitl [C]; · iexact C
  isplitl [D]; · iexact D
  isplitl [E] <;> iassumption

theorem rsRest_all : iprop(bigSep Finset.univ (rsHold (F := F) c d u) ∗ slotRight (F := F) c d u 0 ∗ slotRight (F := F) c d u 1
      ∗ from' (fun k : Fin 15 => slotRight (F := F) c d u k.val) 2) ⊢ iprop(rsRest c d u 0 ∗ from' (rsRest (F := F) c d u) 1) := by
  have h0 : from' (rsRest (F := F) c d u) 0 = _ := from_peel (rsRest (F := F) c d u) (0 : Fin 15)
  have s0 : from' (fun k : Fin 15 => slotRight (F := F) c d u k.val) 0 = _ := from_peel (fun k : Fin 15 => slotRight (F := F) c d u k.val) (0 : Fin 15)
  have s1 : from' (fun k : Fin 15 => slotRight (F := F) c d u k.val) 1 = _ := from_peel (fun k : Fin 15 => slotRight (F := F) c d u k.val) (1 : Fin 15)
  have hj : iprop(bigSep Finset.univ (rsHold (F := F) c d u) ∗ bigSep Finset.univ (fun k : Fin 15 => slotRight (F := F) c d u k.val))
      ⊢ bigSep Finset.univ (rsRest (F := F) c d u) := by
    rw [← bigSep_sep']
    exact bigSep_mono fun k _ => rsHold_rest c d u k
  rw [← from_zero, ← from_zero (fun k : Fin 15 => slotRight (F := F) c d u k.val), ← from_zero (rsRest (F := F) c d u), h0, s0] at hj
  have s1' : from' (fun k : Fin 15 => slotRight (F := F) c d u k.val) ((0 : Fin 15).val + 1) = _ := s1
  rw [s1', from_zero] at hj
  exact hj

theorem agRest_all : iprop(bigSep Finset.univ (agHold (F := F) c d u)
      ∗ bigSep Finset.univ fun k : Fin 15 => any (F := F) (dst d c) (piece d (gidx c d k.castSucc) u)) ⊢ from' (agRest (F := F) c d u) 0 := by
  rw [from_zero, ← bigSep_sep']
  exact bigSep_mono fun k _ => agHold_rest c d u k

/-- One ring's sub-block when the barrier is over. -/
def S2 : sProp 𝕄 :=
  iprop(rsRest c d u 0 ∗ from' (rsRest (F := F) c d u) 1 ∗ rd c d u 0 ∗ any c (sendV d u) ∗ lastPre c d u)

theorem S1_S2 : iprop(S1 c d u ∗ barU c d u) ⊢ S2 (F := F) c d u := by
  unfold S1 S2 barU lastPre
  iintro ⟨⟨H1, H2, H3, H4, H5, H6, H7, H8, H9⟩, B0, B1, B2⟩
  ihave HA := (rsRest_all c d u) $$ [H1 B0 B1 H2]
  · isplitl [H1]; · iexact H1
    isplitl [B0]; · iexact B0
    isplitl [B1] <;> iassumption
  icases HA with ⟨HA, HB⟩
  isplitl [HA]; · iexact HA
  isplitl [HB]; · iexact HB
  isplitl [H3]; · iexact H3
  isplitl [H5]; · iexact H5
  isplitl [H6]; · iexact H6
  isplitl [H4 B2]
  · iapply (agRest_all c d u); isplitl [H4] <;> iassumption
  isplitl [H7]; · iexact H7
  isplitl [H8] <;> iassumption

end Start

section Run
variable (I : Ins F) (κ : Dev nD × Kind → ℕ) (ν : Key → ℕ) (c : Dev nD)

/-- What a device starts with, beside its arguments. -/
def startB : sProp 𝕄 :=
  iprop(cred (tallyAt (cell c none) 0 2) ∗ atPos ER (cell c none) 0 ∅ 0
    ∗ dutyTok ER (cell (dst true c) none) 0 0 ∗ dutyTok ER (cell (dst false c) none) 0 1
    ∗ barPay (dst true c) false ∗ barPay (dst false c) true
    ∗ quad (fun d u => S1 c d u) ∗ (CWs c false 0 ∗ CWs c true 0) ∗ (toks c false 0 ∗ toks c true 0))

/-- One ring's sub-block at the end. -/
def E1 (d : Bool) (u : Fin 2) : sProp 𝕄 :=
  iprop(rsDone c d u ∗ agMid I c d u 14 ∗ semVal (cell c (some (.st d u))) 0 ∗ has c (piece d (gidx c d 0) u) (FP I d (gidx c d 0) u)
    ∗ owns (c : Thread nD τ) (stgV d u) fullShare.right (FN I d u c))

/-- What a device ends with, beside its arguments. -/
def doneB : sProp 𝕄 :=
  iprop(semVal (cell c none) 0 ∗ quad (fun d u => E1 I c d u) ∗ semVal (cell c (some (.cred false))) 0 ∗ semVal (cell c (some (.cred true))) 0)

theorem rs_zero (d : Bool) (u : Fin 2) : iprop(rsPres c d u 0 ∗ from' (rsRest (F := F) c d u) 1 ∗ rd c d u 0) ⊢ RS c d u 0 := by
  unfold RS
  rw [dif_pos (show 0 < 15 by decide), below_zero]
  iintro ⟨A, B, C⟩
  isplitr; · iempintro
  isplitl [A]; · iexact A
  isplitl [B] <;> iassumption

theorem CWs_close (d : Bool) : iprop(recs I κ ν ∗ CWs c d 14) ⊢ iprop(|={Set.univ}=> semVal (cell c (some (.cred d))) 0) := by
  unfold CWs
  iintro ⟨#HR, HW, -⟩
  iapply (CW_close I κ ν c d)
  isplitr; · iexact HR
  iexact HW

theorem wp_done (Q : PUnit → sProp 𝕄) : iprop(|={Set.univ}=> Q ⟨⟩) ⊢ WP (F := F) c (.ret ⟨⟩) Q := by
  unfold WP; rw [wp_ret]

/-- After the barrier. -/
theorem wp_after (Q : PUnit → sProp 𝕄) :
    iprop(recs I κ ν ∗ inp I c ∗ quad (fun d u => S2 (F := F) c d u) ∗ (CWs c false 0 ∗ CWs c true 0) ∗ (toks c false 0 ∗ toks c true 0) ∗ O c owedRs0)
      ⊢ iprop(((inp I c ∗ quad (fun d u => E1 I c d u) ∗ semVal (cell c (some (.cred false))) 0 ∗ semVal (cell c (some (.cred true))) 0 ∗ O c [])
          -∗ |={Set.univ}=> Q ⟨⟩)
        -∗ WP c (afterBarrier sxM swM xM wM c) Q) := by
  unfold afterBarrier quad owedRs0
  unfold S2
  iintro ⟨#HR, Hi, ⟨⟨A00, B00, C00, D00, L00⟩, ⟨A10, B10, C10, D10, L10⟩, ⟨A01, B01, C01, D01, L01⟩, A11, B11, C11, D11, L11⟩, HC, HT, HO⟩ Hk
  iapply (wp_rsInit I κ ν c false 0 _ Q _) $$ [Hi A00 D00 HO]
  · isplitr; · iexact HR
    isplitl [Hi]; · iexact Hi
    isplitl [A00]; · iexact A00
    isplitl [D00] <;> iassumption
  iintro ⟨Hi, A00, HO⟩
  iapply (wp_rsInit I κ ν c false 1 _ Q _) $$ [Hi A01 D01 HO]
  · isplitr; · iexact HR
    isplitl [Hi]; · iexact Hi
    isplitl [A01]; · iexact A01
    isplitl [D01] <;> iassumption
  iintro ⟨Hi, A01, HO⟩
  iapply (wp_rsInit I κ ν c true 0 _ Q _) $$ [Hi A10 D10 HO]
  · isplitr; · iexact HR
    isplitl [Hi]; · iexact Hi
    isplitl [A10]; · iexact A10
    isplitl [D10] <;> iassumption
  iintro ⟨Hi, A10, HO⟩
  iapply (wp_rsInit I κ ν c true 1 _ Q _) $$ [Hi A11 D11 HO]
  · isplitr; · iexact HR
    isplitl [Hi]; · iexact Hi
    isplitl [A11]; · iexact A11
    isplitl [D11] <;> iassumption
  iintro ⟨Hi, A11, HO⟩
  ihave R00 := (rs_zero c false 0) $$ [A00 B00 C00]
  · isplitl [A00]; · iexact A00
    isplitl [B00] <;> iassumption
  ihave R10 := (rs_zero c true 0) $$ [A10 B10 C10]
  · isplitl [A10]; · iexact A10
    isplitl [B10] <;> iassumption
  ihave R01 := (rs_zero c false 1) $$ [A01 B01 C01]
  · isplitl [A01]; · iexact A01
    isplitl [B01] <;> iassumption
  ihave R11 := (rs_zero c true 1) $$ [A11 B11 C11]
  · isplitl [A11]; · iexact A11
    isplitl [B11] <;> iassumption
  iapply (wp_rsLoop I κ ν c _ Q 14 0 rfl) $$ [Hi R00 R10 R01 R11 HC HT HO]
  · isplitr; · iexact HR
    isplitr [HO]
    · unfold RSA quad
      isplitl [Hi]; · iexact Hi
      isplitl [R00 R10 R01 R11]
      · isplitl [R00]; · iexact R00
        isplitl [R10]; · iexact R10
        isplitl [R01] <;> iassumption
      isplitl [HC] <;> iassumption
    iexact HO
  unfold RSA quad
  iintro ⟨⟨Hi, ⟨R00, R10, R01, R11⟩, ⟨HC0, HC1⟩, -⟩, HO⟩
  have hl0 : Above 30 owedAg0 := above_ag0 30 (by decide)
  unfold owedAg0 four at hl0 ⊢
  iapply (wp_rsLast I κ ν c false 0 _ Q _ hl0) $$ [Hi R00 L00 HO]
  · isplitr; · iexact HR
    isplitl [Hi]; · iexact Hi
    isplitl [R00]; · iexact R00
    isplitl [L00] <;> iassumption
  iintro ⟨Hi, X00, G00, P00, HO⟩
  iapply (wp_rsLast I κ ν c true 0 _ Q _ hl0.tail) $$ [Hi R10 L10 HO]
  · isplitr; · iexact HR
    isplitl [Hi]; · iexact Hi
    isplitl [R10]; · iexact R10
    isplitl [L10] <;> iassumption
  iintro ⟨Hi, X10, G10, P10, HO⟩
  iapply (wp_rsLast I κ ν c false 1 _ Q _ hl0.tail.tail) $$ [Hi R01 L01 HO]
  · isplitr; · iexact HR
    isplitl [Hi]; · iexact Hi
    isplitl [R01]; · iexact R01
    isplitl [L01] <;> iassumption
  iintro ⟨Hi, X01, G01, P01, HO⟩
  iapply (wp_rsLast I κ ν c true 1 _ Q _ hl0.tail.tail.tail) $$ [Hi R11 L11 HO]
  · isplitr; · iexact HR
    isplitl [Hi]; · iexact Hi
    isplitl [R11]; · iexact R11
    isplitl [L11] <;> iassumption
  iintro ⟨Hi, X11, G11, P11, HO⟩
  have hl1 : Above 40 (four (fun d u => oAgr d (Fin.succ (0 : Fin 14)) u) (owedAg 13 1 rfl)) := above_ag 14 0 rfl 40 (Nat.le_refl 40)
  ihave HO := (show O (F := F) c (owedAg 14 0 rfl) ⊢ O c (four (fun d u => oAgr d (Fin.succ (0 : Fin 14)) u) (owedAg 13 1 rfl)) from .rfl) $$ HO
  iapply (wp_agFirst I κ ν c _ Q _ hl1) $$ [G00 G10 G01 G11 HO]
  · isplitr; · iexact HR
    isplitr [HO]
    · unfold AGA quad
      isplitl [G00]; · iexact G00
      isplitl [G10]; · iexact G10
      isplitl [G01] <;> iassumption
    iexact HO
  iintro ⟨G, HO⟩
  iapply (wp_agLoop I κ ν c _ Q 13 1 rfl (Nat.le_refl 1)) $$ [G HO]
  · isplitr; · iexact HR
    isplitl [G] <;> iassumption
  iintro ⟨G, HO⟩
  iapply (wp_agLast I κ ν c _ Q) $$ [G HO]
  · isplitr; · iexact HR
    isplitl [G] <;> iassumption
  unfold AGM quad
  iintro ⟨⟨G00, G10, G01, G11⟩, HO⟩
  iapply (wp_stWait I κ ν c false 0 _ Q [] .nil) $$ [P00 HO]
  · isplitr; · iexact HR
    isplitl [P00] <;> iassumption
  iintro ⟨Y00, Z00, W00, HO⟩
  iapply (wp_stWait I κ ν c false 1 _ Q [] .nil) $$ [P01 HO]
  · isplitr; · iexact HR
    isplitl [P01] <;> iassumption
  iintro ⟨Y01, Z01, W01, HO⟩
  iapply (wp_stWait I κ ν c true 0 _ Q [] .nil) $$ [P10 HO]
  · isplitr; · iexact HR
    isplitl [P10] <;> iassumption
  iintro ⟨Y10, Z10, W10, HO⟩
  iapply (wp_stWait I κ ν c true 1 _ Q [] .nil) $$ [P11 HO]
  · isplitr; · iexact HR
    isplitl [P11] <;> iassumption
  iintro ⟨Y11, Z11, W11, HO⟩
  iapply (wp_done c Q)
  imod (CWs_close I κ ν c false) $$ [HC0] with HC0
  · isplitr; · iexact HR
    iexact HC0
  imod (CWs_close I κ ν c true) $$ [HC1] with HC1
  · isplitr; · iexact HR
    iexact HC1
  iapply Hk
  unfold E1
  isplitl [Hi]; · iexact Hi
  isplitr [HC0 HC1 HO]
  · isplitl [X00 G00 Y00 Z00 W00]
    · isplitl [X00]; · iexact X00
      isplitl [G00]; · iexact G00
      isplitl [Y00]; · iexact Y00
      isplitl [Z00] <;> iassumption
    isplitl [X10 G10 Y10 Z10 W10]
    · isplitl [X10]; · iexact X10
      isplitl [G10]; · iexact G10
      isplitl [Y10]; · iexact Y10
      isplitl [Z10] <;> iassumption
    isplitl [X01 G01 Y01 Z01 W01]
    · isplitl [X01]; · iexact X01
      isplitl [G01]; · iexact G01
      isplitl [Y01]; · iexact Y01
      isplitl [Z01] <;> iassumption
    isplitl [X11]; · iexact X11
    isplitl [G11]; · iexact G11
    isplitl [Y11]; · iexact Y11
    isplitl [Z11] <;> iassumption
  isplitl [HC0]; · iexact HC0
  isplitl [HC1]; · iexact HC1
  iexact HO

/-- The body. -/
theorem wp_steps (Q : PUnit → sProp 𝕄) :
    iprop(recs I κ ν ∗ inp I c ∗ startB c ∗ O c owed)
      ⊢ iprop(((inp I c ∗ doneB I c ∗ O c []) -∗ |={Set.univ}=> Q ⟨⟩) -∗ WP c (steps sxM swM xM wM) Q) := by
  unfold steps startB doneB owed oBar
  simp only [wp_deviceId]
  show _ ⊢ iprop(_ -∗ WP c (.op (.semSignal (dst true c, .tc) barSem (1#32 : BitVec 32).toInt) fun _ =>
    .op (.semSignal (dst false c, .tc) barSem (1#32 : BitVec 32).toInt) fun _ =>
    .op (.semWait barSem (2#32 : BitVec 32).toInt) fun _ =>
    afterBarrier sxM swM xM wM c) Q)
  iintro ⟨#HR, Hi, ⟨Hc, Ha, Ht1, Ht2, Hb1, Hb2, Hq, HC, HT⟩, HO⟩ Hk
  ihave Hb1 := (show barPay (F := F) (dst true c) false ⊢ payK I (dst true c) none 0 from .rfl) $$ Hb1
  ihave Hb2 := (show barPay (F := F) (dst false c) true ⊢ payK I (dst false c) none 1 from .rfl) $$ Hb2
  iapply (wp_sig I κ ν c true none barSem rfl 0 (by decide) rfl 0 _) $$ [Ht1 Hb1 HO]
  · isplitr; · iexact HR
    isplitl [Ht1]; · iexact Ht1
    isplitl [Hb1]; · iexact Hb1
    iexact HO
  iintro HO
  iapply (wp_sig I κ ν c false none barSem rfl 1 (by decide) rfl 0 _) $$ [Ht2 Hb2 HO]
  · isplitr; · iexact HR
    isplitl [Ht2]; · iexact Ht2
    isplitl [Hb2]; · iexact Hb2
    iexact HO
  iintro HO
  iapply (wp_barWait I κ ν c _ above_rs0) $$ [Hc Ha HO]
  · isplitr; · iexact HR
    isplitl [Hc]; · iexact Hc
    isplitl [Ha] <;> iassumption
  iintro ⟨Hz, Hf, Ht, HO⟩
  ihave Hf := (bar_split c false) $$ Hf
  ihave Ht := (bar_split c true) $$ Ht
  icases Hf with ⟨F0, F1⟩
  icases Ht with ⟨T0, T1⟩
  unfold quad
  icases Hq with ⟨Q00, Q10, Q01, Q11⟩
  iapply (wp_after I κ ν c Q) $$ [Hi F0 F1 T0 T1 Q00 Q10 Q01 Q11 HC HT HO]
  · isplitr; · iexact HR
    isplitl [Hi]; · iexact Hi
    isplitl [F0 F1 T0 T1 Q00 Q10 Q01 Q11]
    · unfold quad
      isplitl [F0 Q00]
      · iapply (S1_S2 c false 0); isplitl [Q00] <;> iassumption
      isplitl [T0 Q10]
      · iapply (S1_S2 c true 0); isplitl [Q10] <;> iassumption
      isplitl [F1 Q01]
      · iapply (S1_S2 c false 1); isplitl [Q01] <;> iassumption
      iapply (S1_S2 c true 1); isplitl [Q11] <;> iassumption
    isplitl [HC]; · iexact HC
    isplitl [HT] <;> iassumption
  iintro ⟨Hi, He, Hc0, Hc1, HO⟩
  iapply Hk
  isplitl [Hi]; · iexact Hi
  isplitl [Hz He Hc0 Hc1]
  · isplitl [Hz]; · iexact Hz
    isplitl [He]; · iexact He
    isplitl [Hc0] <;> iassumption
  iexact HO

end Run

end Cert.RingProof

end
-- ==== Proof.Parts.lean ====
/-
The buffers in the pieces the protocol passes around, and whole again.
-/
module

public import proofs.«01_k».proof.Proof.Body

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Any
variable (c : Dev nD)

theorem any_pts {sp : Space} {s : Shape} {e : EltTy} (m : Memref sig .tc sp s e) :
    any (F := F) c m = iprop(∃ g, m.view.loc (c : Thread nD τ) ↦[m.view.set]{fullShare} g) := by
  have h1 : any (F := F) c m ⊢ iprop(∃ g, m.view.loc (c : Thread nD τ) ↦[m.view.set]{fullShare} g) := by
    unfold any owns
    iintro ⟨%X, %g, -, H⟩
    iexists g; iexact H
  have h2 : iprop(∃ g, m.view.loc (c : Thread nD τ) ↦[m.view.set]{fullShare} g) ⊢ any (F := F) c m := by
    unfold any owns
    iintro ⟨%g, H⟩
    iexists m.view.read (Elt F) g
    iexists g
    isplitr; · ipureintro; rfl
    iexact H
  exact BI.Entails.antisymm h1 h2

theorem any_squeeze {sp : Space} {s s' : Shape} {e : EltTy} (m : Memref sig .tc sp s e) (h : s.Squeezes s') :
    any (F := F) c (m.squeeze s' h) = any c m := by
  rw [any_pts, any_pts]
  have : (m.squeeze s' h).view.set = m.view.set := View.set_reshape _ _
  show iprop(∃ g, m.view.loc (c : Thread nD τ) ↦[(m.squeeze s' h).view.set]{fullShare} g) = _
  rw [this]

theorem any_whole (b : Ref sig .tc) :
    any (F := F) c (Memref.whole b) = iprop(∃ f : Buf (Elt F) ((c : Thread nD τ).loc b), ((c : Thread nD τ).loc b) ↦{fullShare} f) := by
  unfold any
  simp only [owns_whole]

section Cut
variable {sp : Space} {s : Shape} {e : EltTy} (m : Memref sig .tc sp s e) {T : Type} [Fintype T] [DecidableEq T] (r : T → Rect s)
  (hr : ∀ t a, (r t).stride a = 1) (dec : s.Idx → T) (hdec : ∀ t i, i ∈ (r t).set ↔ dec i = t)
include hdec

theorem cut_disjoint (t t' : T) (h : t ≠ t') : Disjoint (r t).set (r t').set :=
  Finset.disjoint_left.mpr fun i hi hi' => h (((hdec t i).mp hi).symm.trans ((hdec t' i).mp hi'))
theorem cut_cover : (Finset.univ : Finset T).biUnion (fun t => (r t).set) = Finset.univ := by
  ext i; simp only [Finset.mem_biUnion, Finset.mem_univ, true_and, iff_true]
  exact ⟨dec i, (hdec _ i).mpr rfl⟩

theorem any_cut : any (F := F) c m ⊢ bigSep Finset.univ fun t => any c (m.slice (r t) (hr t)) := by
  unfold any
  iintro ⟨%X, H⟩
  iapply (show (owns (c : Thread nD τ) m fullShare X : sProp 𝕄) ⊢ bigSep Finset.univ fun t => iprop(∃ X, owns (c : Thread nD τ) (m.slice (r t) (hr t)) fullShare X) from
    (owns_rects (c : Thread nD τ) m fullShare r hr (cut_disjoint r dec hdec) (cut_cover r dec hdec) X).trans (bigSep_mono fun t _ => by
      show (owns (c : Thread nD τ) (m.slice (r t) (hr t)) fullShare (fun j => X ((r t).emb j)) : sProp 𝕄) ⊢ iprop(∃ X, owns (c : Thread nD τ) (m.slice (r t) (hr t)) fullShare X)
      iintro H; iexists _; iexact H))
  iexact H

theorem any_join : (bigSep Finset.univ fun t => any (F := F) c (m.slice (r t) (hr t))) ⊢ any c m := by
  unfold any
  refine (BI.bigSep_exists_pi Finset.univ (fun t X => owns (c : Thread nD τ) (m.slice (r t) (hr t)) fullShare X)).trans ?_
  show iprop(∃ Xs : (t : T) → (r t).shape.Idx → Elt F e, bigSep Finset.univ fun t => owns (c : Thread nD τ) (m.slice (r t) (hr t)) fullShare (Xs t)) ⊢ iprop(∃ X, owns (c : Thread nD τ) m fullShare X)
  iintro ⟨%Xs, H⟩
  have hg (t : T) : (fun j => Rect.glue r (cut_cover r dec hdec) Xs ((r t).emb j)) = Xs t :=
    funext fun y => Rect.glue_emb r (cut_cover r dec hdec) (cut_disjoint r dec hdec) Xs t y
  iexists (Rect.glue r (cut_cover r dec hdec) Xs)
  iapply (owns_of_rects (c : Thread nD τ) m fullShare r hr (cut_disjoint r dec hdec) (cut_cover r dec hdec) (Rect.glue r (cut_cover r dec hdec) Xs))
  simp only [hg]
  iexact H

/-- The pieces at given contents make the whole at the contents they are pieces of. -/
theorem has_join (X : s.Idx → Elt F e) (Y : (t : T) → (r t).shape.Idx → Elt F e) (hY : ∀ t j, X ((r t).emb j) = Y t j) :
    (bigSep Finset.univ fun t => has (F := F) c (m.slice (r t) (hr t)) (Y t)) ⊢ has c m X := by
  obtain rfl : (fun t j => X ((r t).emb j)) = Y := funext fun t => funext fun j => hY t j
  exact owns_of_rects (c : Thread nD τ) m fullShare r hr (cut_disjoint r dec hdec) (cut_cover r dec hdec) X

end Cut

/-! ## The receive, send and staging buffers -/

def decR (i : S2x2x128x4096.Idx) : Fin 2 × Fin 2 := (⟨(i 0).val, (i 0).isLt⟩, ⟨(i 1).val, (i 1).isLt⟩)
theorem hdecR (t : Fin 2 × Fin 2) (i : S2x2x128x4096.Idx) : i ∈ (recvR t.1 t.2).set ↔ decR i = t := by
  have h2 : (i 2).val < 128 := (i 2).isLt
  have h3 : (i 3).val < 4096 := (i 3).isLt
  rw [Rect.mem_set_unit]
  obtain ⟨p, u⟩ := t
  unfold decR
  simp only [Prod.mk.injEq, Fin.ext_iff]
  constructor
  · intro h
    have h0 := h 0; have h1 := h 1
    change p.val ≤ (i 0).val ∧ (i 0).val < p.val + 1 at h0
    change u.val ≤ (i 1).val ∧ (i 1).val < u.val + 1 at h1
    omega
  · rintro ⟨h0, h1⟩ a
    match a with
    | 0 => show p.val ≤ (i 0).val ∧ (i 0).val < p.val + 1; omega
    | 1 => show u.val ≤ (i 1).val ∧ (i 1).val < u.val + 1; omega
    | 2 => show 0 ≤ (i 2).val ∧ (i 2).val < 0 + 128; omega
    | 3 => show 0 ≤ (i 3).val ∧ (i 3).val < 0 + 4096; omega

def decS (i : S2x128x4096.Idx) : Fin 2 := ⟨(i 0).val, (i 0).isLt⟩
theorem hdecS (u : Fin 2) (i : S2x128x4096.Idx) : i ∈ (sendR u).set ↔ decS i = u := by
  have h2 : (i 1).val < 128 := (i 1).isLt
  have h3 : (i 2).val < 4096 := (i 2).isLt
  rw [Rect.mem_set_unit]
  unfold decS
  simp only [Fin.ext_iff]
  constructor
  · intro h
    have h0 := h 0
    change u.val ≤ (i 0).val ∧ (i 0).val < u.val + 1 at h0
    omega
  · intro h0 a
    match a with
    | 0 => show u.val ≤ (i 0).val ∧ (i 0).val < u.val + 1; omega
    | 1 => show 0 ≤ (i 1).val ∧ (i 1).val < 0 + 128; omega
    | 2 => show 0 ≤ (i 2).val ∧ (i 2).val < 0 + 4096; omega

theorem recv_cut (d : Bool) : any (F := F) c (recvM d) ⊢ bigSep Finset.univ fun x : Fin 2 × Fin 2 => any c (recvV d x.1 x.2) := by
  refine (any_cut c (recvM d) (fun x : Fin 2 × Fin 2 => recvR x.1 x.2) (fun _ _ => rfl) decR hdecR).trans (Entails.of_eq (bigSep_congr fun x _ => ?_))
  exact (any_squeeze c _ squeezes_S1x1x128x4096_S128x4096).symm
theorem recv_join (d : Bool) : (bigSep Finset.univ fun x : Fin 2 × Fin 2 => any (F := F) c (recvV d x.1 x.2)) ⊢ any c (recvM d) := by
  refine BIBase.Entails.trans (Entails.of_eq (bigSep_congr fun x _ => ?_)) (any_join c (recvM d) (fun x : Fin 2 × Fin 2 => recvR x.1 x.2) (fun _ _ => rfl) decR hdecR)
  exact any_squeeze c _ squeezes_S1x1x128x4096_S128x4096
theorem send_cut (d : Bool) : any (F := F) c (sendM d) ⊢ iprop(any c (sendV d 0) ∗ any c (sendV d 1)) := by
  rw [← pair2 fun u => any (F := F) c (sendV d u)]
  refine (any_cut c (sendM d) sendR (fun _ _ => rfl) decS hdecS).trans (Entails.of_eq (bigSep_congr fun x _ => ?_))
  exact (any_squeeze c _ squeezes_S1x128x4096_S128x4096).symm
theorem send_join (d : Bool) : iprop(any (F := F) c (sendV d 0) ∗ any c (sendV d 1)) ⊢ any c (sendM d) := by
  rw [← pair2 fun u => any (F := F) c (sendV d u)]
  refine BIBase.Entails.trans (Entails.of_eq (bigSep_congr fun x _ => ?_)) (any_join c (sendM d) sendR (fun _ _ => rfl) decS hdecS)
  exact any_squeeze c _ squeezes_S1x128x4096_S128x4096
theorem stg_cut (d : Bool) : any (F := F) c (stgM d) ⊢ iprop(any c (stgV d 0) ∗ any c (stgV d 1)) := by
  rw [← pair2 fun u => any (F := F) c (stgV d u)]
  refine (any_cut c (stgM d) sendR (fun _ _ => rfl) decS hdecS).trans (Entails.of_eq (bigSep_congr fun x _ => ?_))
  exact (any_squeeze c _ squeezes_S1x128x4096_S128x4096).symm
theorem stg_join (d : Bool) : iprop(any (F := F) c (stgV d 0) ∗ any c (stgV d 1)) ⊢ any c (stgM d) := by
  rw [← pair2 fun u => any (F := F) c (stgV d u)]
  refine BIBase.Entails.trans (Entails.of_eq (bigSep_congr fun x _ => ?_)) (any_join c (stgM d) sendR (fun _ _ => rfl) decS hdecS)
  exact any_squeeze c _ squeezes_S1x128x4096_S128x4096

/-! ## The result -/

abbrev Pc : Type := (Bool × Fin 2) × Fin 16
def decP (i : S4096x8192.Idx) : Pc :=
  ((decide (4096 ≤ (i 1).val), ⟨(i 0).val % 256 / 128, by omega⟩), ⟨(i 0).val / 256, by have h : (i 0).val < 4096 := (i 0).isLt; omega⟩)
/-- Where in its piece an element lies. -/
def locP (i : S4096x8192.Idx) : S128x4096.Idx := fun
  | ⟨0, _⟩ => ⟨(i 0).val % 128, Nat.mod_lt _ (by decide)⟩
  | ⟨1, _⟩ => ⟨(i 1).val % 4096, Nat.mod_lt _ (by decide)⟩

theorem hdecP (t : Pc) (i : S4096x8192.Idx) : i ∈ (pieceR t.1.1 t.2 t.1.2).set ↔ decP i = t := by
  have h0 : (i 0).val < 4096 := (i 0).isLt
  have h1 : (i 1).val < 8192 := (i 1).isLt
  obtain ⟨⟨d, u⟩, r⟩ := t
  have hu := u.isLt
  rw [Rect.mem_set_unit]
  unfold decP
  simp only [Prod.mk.injEq, Fin.ext_iff]
  constructor
  · intro h
    have a0 := h 0; have a1 := h 1
    change 256 * r.val + 128 * u.val ≤ (i 0).val ∧ (i 0).val < 256 * r.val + 128 * u.val + 128 at a0
    change wcol d ≤ (i 1).val ∧ (i 1).val < wcol d + 4096 at a1
    refine ⟨⟨?_, by omega⟩, by omega⟩
    cases d
    · change 0 ≤ (i 1).val ∧ (i 1).val < 0 + 4096 at a1
      rw [decide_eq_false_iff_not]; omega
    · change 4096 ≤ (i 1).val ∧ (i 1).val < 4096 + 4096 at a1
      rw [decide_eq_true_iff]; omega
  · rintro ⟨⟨hd, hu'⟩, hr⟩ a
    match a with
    | 0 => show 256 * r.val + 128 * u.val ≤ (i 0).val ∧ (i 0).val < 256 * r.val + 128 * u.val + 128; omega
    | 1 =>
      show wcol d ≤ (i 1).val ∧ (i 1).val < wcol d + 4096
      cases d
      · rw [decide_eq_false_iff_not] at hd
        show 0 ≤ (i 1).val ∧ (i 1).val < 0 + 4096; omega
      · rw [decide_eq_true_iff] at hd
        show 4096 ≤ (i 1).val ∧ (i 1).val < 4096 + 4096; omega

theorem locP_emb (t : Pc) (j : S128x4096.Idx) : locP ((pieceR t.1.1 t.2 t.1.2).emb j) = j := by
  obtain ⟨⟨d, u⟩, r⟩ := t
  have h0 : (j 0).val < 128 := (j 0).isLt
  have h1 : (j 1).val < 4096 := (j 1).isLt
  funext a
  match a with
  | 0 =>
    apply Fin.ext
    show (256 * r.val + 128 * u.val + 1 * (j 0).val) % 128 = (j 0).val; omega
  | 1 =>
    apply Fin.ext
    show (wcol d + 1 * (j 1).val) % 4096 = (j 1).val
    cases d
    · show (0 + 1 * (j 1).val) % 4096 = (j 1).val; omega
    · show (4096 + 1 * (j 1).val) % 4096 = (j 1).val; omega

/-- The whole result, the same on every device. -/
def outX (I : Ins F) : S4096x8192.Idx → Elt F .f32 := fun i => FP I (decP i).1.1 (decP i).2 (decP i).1.2 (locP i)

theorem outX_emb (I : Ins F) (t : Pc) (j : S128x4096.Idx) : outX I ((pieceR t.1.1 t.2 t.1.2).emb j) = FP I t.1.1 t.2 t.1.2 j := by
  have h : decP ((pieceR t.1.1 t.2 t.1.2).emb j) = t :=
    (hdecP t _).mp (by rw [← Rect.map_emb_univ]; exact Finset.mem_map_of_mem _ (Finset.mem_univ j))
  unfold outX
  rw [h, locP_emb]

/-! ## Finite conjunctions -/

theorem quad_eq (Φ : Bool × Fin 2 → sProp 𝕄) : bigSep Finset.univ Φ = quad fun d u => Φ (d, u) :=
  bigSep_univ_eq_bigSepL [(false, 0), (true, 0), (false, 1), (true, 1)] (by decide) (by decide) Φ
theorem bool2 (Φ : Bool → sProp 𝕄) : bigSep Finset.univ Φ = iprop(Φ false ∗ Φ true) :=
  bigSep_univ_eq_bigSepL [false, true] (by decide) (by decide) Φ
theorem fin_first {n : ℕ} (Φ : Fin (n + 1) → sProp 𝕄) : bigSep Finset.univ Φ = iprop(Φ 0 ∗ bigSep Finset.univ fun k : Fin n => Φ k.succ) := by
  refine (congrArg (bigSep · Φ) (?_ : _ = insert (0 : Fin (n + 1)) (Finset.univ.map (Fin.succEmb n)))).trans ((bigSep_insert (by simp)).trans ?_)
  · ext k; refine Fin.cases ?_ (fun k => ?_) k <;> simp
  · rw [bigSep_map]; rfl
theorem fin_last {n : ℕ} (Φ : Fin (n + 1) → sProp 𝕄) : bigSep Finset.univ Φ = iprop(Φ (Fin.last n) ∗ bigSep Finset.univ fun k : Fin n => Φ k.castSucc) := by
  refine (congrArg (bigSep · Φ) (?_ : _ = insert (Fin.last n) (Finset.univ.map Fin.castSuccEmb))).trans ((bigSep_insert (by simp)).trans ?_)
  · ext k; refine Fin.lastCases ?_ (fun k => ?_) k <;> simp
  · rw [bigSep_map]; rfl
theorem quad_mono {f g : Bool → Fin 2 → sProp 𝕄} (h : ∀ d u, f d u ⊢ g d u) : quad f ⊢ quad g := by
  unfold quad
  iintro ⟨A, B, C, D⟩
  isplitl [A]; · iapply (h _ _); iexact A
  isplitl [B]; · iapply (h _ _); iexact B
  isplitl [C]; · iapply (h _ _); iexact C
  iapply (h _ _); iexact D
theorem quad_sep (f g : Bool → Fin 2 → sProp 𝕄) : (quad fun d u => iprop(f d u ∗ g d u)) = iprop(quad f ∗ quad g) := by
  have h := bigSep_sep' (Finset.univ : Finset (Bool × Fin 2)) (fun x => f x.1 x.2) (fun x => g x.1 x.2)
  rw [quad_eq, quad_eq, quad_eq] at h
  exact h

/-! ## The buffers at the start -/

/-- The receive slots of one direction, -/
def slots (d : Bool) : sProp 𝕄 := bigSep Finset.univ fun x : Fin 2 × Fin 2 => any (F := F) c (recvV d x.1 x.2)
/-- and the pieces of the result its neighbour fills. -/
def outRest (d : Bool) (u : Fin 2) : sProp 𝕄 := bigSep Finset.univ fun k : Fin 15 => any (F := F) c (piece d (gidx c d k.succ) u)

def gEquiv (d : Bool) : Fin 16 ≃ Fin 16 := Equiv.ofBijective (gidx c d) (gidx_bijective c d)

theorem out_cut : any (F := F) c outM ⊢ quad fun d u => iprop(any c (piece d (gidx c d 0) u) ∗ outRest c d u) := by
  refine (any_cut c outM (fun t : Pc => pieceR t.1.1 t.2 t.1.2) (fun _ _ => rfl) decP hdecP).trans (Entails.of_eq ?_)
  rw [bigSep_univ_prod, quad_eq]
  have h (d : Bool) (u : Fin 2) : (bigSep Finset.univ fun r : Fin 16 => any (F := F) c (piece d r u))
      = iprop(any c (piece d (gidx c d 0) u) ∗ outRest c d u) := by
    rw [bigSep_univ_equiv (gEquiv c d) (fun r => any (F := F) c (piece d r u)), fin_first]; rfl
  unfold quad
  beta_reduce
  rw [← h, ← h, ← h, ← h]; rfl

theorem out_join (I : Ins F) : (quad fun d u => bigSep Finset.univ fun r : Fin 16 => has c (piece d r u) (FP I d r u)) ⊢ has c outM (outX I) := by
  refine BIBase.Entails.trans (Entails.of_eq ?_) (has_join c outM (fun t : Pc => pieceR t.1.1 t.2 t.1.2) (fun _ _ => rfl) decP hdecP (outX I)
    (fun t j => FP I t.1.1 t.2 t.1.2 j) (outX_emb I))
  rw [bigSep_univ_prod, quad_eq]; rfl

theorem bar_make (d : Bool) : iprop(slots (F := F) c d ∗ outRest c d 0 ∗ outRest c d 1) ⊢ barPay (src d c) d := by
  unfold barPay slots outRest
  rw [dst_dst d c, split2]
  have h (k : Fin 15) : gidx c d k.succ = gidx (src d c) d k.castSucc := by
    have := gidx_succ (src d c) d k; rw [dst_dst d c] at this; exact this
  simp only [h]
  rw [split2]

/-! ## The buffers at the end -/

theorem piece_end (I : Ins F) (d : Bool) (u : Fin 2) :
    iprop((bigSep Finset.univ fun k : Fin 15 => agsPay I c d k u) ∗ has c (piece d (gidx c d 0) u) (FP I d (gidx c d 0) u)
        ∗ has c (piece d (gidx c d (Fin.last 15)) u) (FP I d (gidx c d (Fin.last 15)) u)
        ∗ owns (c : Thread nD τ) (stgV d u) fullShare.right (FN I d u c))
      ⊢ iprop(any c (stgV d u) ∗ bigSep Finset.univ fun r : Fin 16 => has c (piece d r u) (FP I d r u)) := by
  have h : (bigSep Finset.univ fun r : Fin 16 => has c (piece d r u) (FP I d r u))
      = iprop(has c (piece d (gidx c d (Fin.last 15)) u) (FP I d (gidx c d (Fin.last 15)) u)
        ∗ has c (piece d (gidx c d 0) u) (FP I d (gidx c d 0) u)
        ∗ bigSep Finset.univ fun k : Fin 14 => has c (piece d (gidx c d k.succ.castSucc) u) (FP I d (gidx c d k.succ.castSucc) u)) := by
    rw [bigSep_univ_equiv (gEquiv c d) (fun r => has c (piece d r u) (FP I d r u)), fin_last, fin_first]; rfl
  have hk (k : Fin 14) : agsPay I c d k.succ u = has c (piece d (gidx c d k.succ.castSucc) u) (FP I d (gidx c d k.succ.castSucc) u) := by
    unfold agsPay; rw [if_neg (Fin.succ_ne_zero k)]
  have h0 : agsPay I c d 0 u = owns (c : Thread nD τ) (stgV d u) fullShare.left (FN I d u c) := by unfold agsPay; rw [if_pos rfl]
  rw [h, fin_first (n := 14)]
  simp only [hk]
  rw [h0]
  iintro ⟨⟨HL, HP⟩, H0, H15, HR⟩
  isplitl [HL HR]
  · unfold any
    iexists (FN I d u c)
    iapply (owns_halves (c : Thread nD τ) (stgV d u) fullShare (FN I d u c)).2
    isplitl [HL] <;> iassumption
  isplitl [H15]; · iexact H15
  isplitl [H0] <;> iassumption

end Any

end Cert.RingProof

end
-- ==== Proof.Deal.lean ====
/-
What each device starts with, put together out of the launch's credits, the tokens and positions minted for the
protocol, and its buffers; and what it ends with, taken apart again.
-/
module

public import proofs.«01_k».proof.Proof.Parts

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem smono {P P' Q Q' : sProp 𝕄} (h : P ⊢ P') (h' : Q ⊢ Q') : iprop(P ∗ Q) ⊢ iprop(P' ∗ Q') := BIClass.sep_mono h h'

theorem prod_eq {A B : Type} [DecidableEq A] [DecidableEq B] (s : Finset A) (t : Finset B) (Φ : A × B → sProp 𝕄) :
    bigSep (s ×ˢ t) Φ = bigSep s fun i => bigSep t fun j => Φ (i, j) := by
  induction s using Finset.induction_on with
  | empty => rw [Finset.empty_product, bigSep_empty, bigSep_empty]
  | insert a s ha ih =>
    have hinj : Set.InjOn (Prod.mk a) (t : Set B) := fun x _ y _ h => congrArg Prod.snd h
    have hu : insert a s ×ˢ t = t.image (Prod.mk a) ∪ s ×ˢ t := by
      ext ⟨x, y⟩
      simp only [Finset.mem_product, Finset.mem_insert, Finset.mem_union, Finset.mem_image, Prod.mk.injEq]
      constructor
      · rintro ⟨h | h, hy⟩
        · exact Or.inl ⟨y, hy, h.symm, rfl⟩
        · exact Or.inr ⟨h, hy⟩
      · rintro (⟨z, hz, h, h'⟩ | ⟨h, hy⟩)
        · exact ⟨Or.inl h.symm, h' ▸ hz⟩
        · exact ⟨Or.inr h, hy⟩
    rw [hu, bigSep_union (Finset.disjoint_left.mpr fun x hx hx' => by
        obtain ⟨y, _, rfl⟩ := Finset.mem_image.mp hx
        exact ha (Finset.mem_product.mp hx').1), bigSep_image_of_injOn hinj, bigSep_insert ha, ih]

/-! ## The semaphores' names, family by family -/

theorem ix4_eq (Φ : Ix4 → sProp 𝕄) : bigSep Finset.univ Φ = quad fun d u => bigSep Finset.univ fun k : Fin 15 => Φ (d, k, u) := by
  rw [bigSep_univ_prod, bool2, split2, split2]
  have h (A B C D : sProp 𝕄) : iprop((A ∗ B) ∗ C ∗ D) ⊢ iprop(A ∗ C ∗ B ∗ D) := by
    iintro ⟨⟨HA, HB⟩, HC, HD⟩
    isplitl [HA]; · iexact HA
    isplitl [HC]; · iexact HC
    isplitl [HB] <;> iassumption
  have h' (A B C D : sProp 𝕄) : iprop(A ∗ C ∗ B ∗ D) ⊢ iprop((A ∗ B) ∗ C ∗ D) := by
    iintro ⟨HA, HC, HB, HD⟩
    isplitl [HA HB]
    · isplitl [HA] <;> iassumption
    isplitl [HC] <;> iassumption
  exact BI.Entails.antisymm (h _ _ _ _) (h' _ _ _ _)

abbrev fam (f : Bool → Fin 15 → Fin 2 → Own) (Φ : Kind → sProp 𝕄) : Bool → Fin 2 → sProp 𝕄 :=
  fun d u => bigSep Finset.univ fun k : Fin 15 => Φ (some (f d k u))

theorem owns_eq (Φ : Own → sProp 𝕄) : bigSep Finset.univ Φ
    = iprop((((quad fun d u => bigSep Finset.univ fun k : Fin 15 => Φ (.rss d k u)) ∗ quad fun d u => bigSep Finset.univ fun k : Fin 15 => Φ (.rsr d k u))
      ∗ (quad fun d u => bigSep Finset.univ fun k : Fin 15 => Φ (.ags d k u)) ∗ quad fun d u => bigSep Finset.univ fun k : Fin 15 => Φ (.agr d k u))
      ∗ (quad fun d u => Φ (.st d u)) ∗ Φ (.cred false) ∗ Φ (.cred true)) := by
  rw [bigSep_univ_equiv ownEquiv Φ, bigSep_univ_sum, bigSep_univ_sum, bigSep_univ_sum, bigSep_univ_sum, bigSep_univ_sum,
    ix4_eq, ix4_eq, ix4_eq, ix4_eq, bool2, quad_eq]
  rfl

theorem kinds_eq (Φ : Kind → sProp 𝕄) : bigSep Finset.univ Φ = iprop((bigSep Finset.univ fun k : Own => Φ (some k)) ∗ Φ none) := by
  rw [bigSep_univ_equiv (Equiv.optionEquivSumPUnit.{0, 0} Own).symm Φ, bigSep_univ_sum, bigSep_univ_of_subsingleton PUnit.unit]
  rfl

/-! ## The credits -/

section Creds
variable (c : Dev nD)

def cr (o : Ob) : sProp 𝕄 := cred (tallyAt (cell c o.kind) o.idx (amt o.kind))
def creds : List Ob → sProp 𝕄
  | [] => iprop(emp)
  | o :: l => iprop(creds l ∗ cr (F := F) c o)

theorem launch_creds (l : List Ob) : (Pipeline.launchCred (fun d => lsum d l) c : sProp 𝕄) ⊢ creds c l := by
  induction l with
  | nil => exact Entails.of_eq (Pipeline.launchCred_zero c)
  | cons o l ih =>
    refine (Entails.of_eq (Pipeline.launchCred_add (fun d => lsum d l) (fun d => o.tally d) c)).trans ?_
    exact smono ih (Pipeline.launchCred_tallyAt (asem o.kind) (dst o.dir) (dst (!o.dir)) (dst_dst o.dir) (dst_dst' o.dir) o.idx (amt o.kind) c)

def cRs (d : Bool) (u : Fin 2) (k : Fin 15) : sProp 𝕄 := cred (tallyAt (cell c (some (.rsr d k u))) 0 N)
def cAg (d : Bool) (u : Fin 2) (k : Fin 15) : sProp 𝕄 := cred (tallyAt (cell c (some (.agr d k u))) 0 N)
def cCr (d : Bool) (j : Fin 13) : sProp 𝕄 := cred (tallyAt (cell c (some (.cred d))) j.val 1)

theorem cr_rs (d : Bool) (k : Fin 15) (u : Fin 2) : cr (F := F) c (oRsr d k u) = cRs c d u k := rfl
theorem cr_ag (d : Bool) (k : Fin 15) (u : Fin 2) : cr (F := F) c (oAgr d k u) = cAg c d u k := rfl
theorem cr_cred (d : Bool) (s : ℕ) (h : s < 13) : cr (F := F) c (oCred d s) = cCr c d ⟨s, h⟩ := rfl
theorem cr_bar (d : Bool) : cr (F := F) c (oBar d) = cred (tallyAt (cell c none) 0 1) := rfl

theorem quad_peel (Φ : Bool → Fin 2 → Fin 15 → sProp 𝕄) (k : Fin 15) :
    iprop(((((quad fun d u => from' (Φ d u) (k.val + 1)) ∗ Φ true 1 k) ∗ Φ false 1 k) ∗ Φ true 0 k) ∗ Φ false 0 k)
      ⊢ quad fun d u => from' (Φ d u) k.val := by
  unfold quad
  simp only [from_peel]
  iintro ⟨⟨⟨⟨⟨A, B, C, D⟩, D'⟩, C'⟩, B'⟩, A'⟩
  isplitl [A A']; · isplitl [A'] <;> iassumption
  isplitl [B B']; · isplitl [B'] <;> iassumption
  isplitl [C C']; · isplitl [C'] <;> iassumption
  isplitl [D'] <;> iassumption

theorem emp_from {n : ℕ} (Φ : Bool → Fin 2 → Fin n → sProp 𝕄) (s : ℕ) (h : n ≤ s) : iprop(emp) ⊢ quad fun d u => from' (Φ d u) s := by
  unfold quad
  beta_reduce
  rw [from_none _ _ h, from_none _ _ h, from_none _ _ h, from_none _ _ h]
  iintro H
  isplitl [H]; · iexact H
  isplitr; · iempintro
  isplitr <;> iempintro

theorem creds_four (f : Bool → Fin 2 → Ob) (l : List Ob) (P : sProp 𝕄) (h : creds c l ⊢ P) :
    creds (F := F) c (four f l) ⊢ iprop((((P ∗ cr c (f true 1)) ∗ cr c (f false 1)) ∗ cr c (f true 0)) ∗ cr c (f false 0)) := by
  unfold four
  simp only [creds]
  exact smono (smono (smono (smono h .rfl) .rfl) .rfl) .rfl

theorem creds_ag (n t : ℕ) (h : t + n = 14) : creds (F := F) c (owedAg n t h) ⊢ quad fun d u => from' (cAg (F := F) c d u) (t + 1) := by
  induction n generalizing t with
  | zero => exact emp_from _ _ (by omega)
  | succ n ih =>
    unfold owedAg
    have h4 := creds_four c (fun d u => oAgr d (Fin.succ (⟨t, by omega⟩ : Fin 14)) u) _ _ (ih (t + 1) (by omega))
    simp only [cr_ag] at h4
    exact h4.trans (quad_peel (cAg (F := F) c) (Fin.succ (⟨t, by omega⟩ : Fin 14)))

theorem creds_ag0 : creds (F := F) c owedAg0 ⊢ quad fun d u => bigSep Finset.univ (cAg (F := F) c d u) := by
  have h4 := creds_four c (fun d u => oAgr d 0 u) _ _ (creds_ag (F := F) c 14 0 rfl)
  simp only [cr_ag] at h4
  have h := h4.trans (quad_peel (cAg (F := F) c) (0 : Fin 15))
  have e (d : Bool) (u : Fin 2) : from' (cAg (F := F) c d u) ((0 : Fin 15).val) = bigSep Finset.univ (cAg (F := F) c d u) := from_zero _
  simp only [e] at h
  exact h

theorem creds_rs (n s : ℕ) (h : s + n = 14) : creds (F := F) c (owedRs n s h)
    ⊢ iprop((quad fun d u => from' (cRs (F := F) c d u) (s + 1)) ∗ from' (cCr (F := F) c false) s ∗ from' (cCr (F := F) c true) s
      ∗ quad fun d u => bigSep Finset.univ (cAg (F := F) c d u)) := by
  induction n generalizing s with
  | zero =>
    refine BIBase.Entails.trans (creds_ag0 c) ?_
    rw [from_none (cCr (F := F) c false) s (by omega), from_none (cCr (F := F) c true) s (by omega)]
    iintro H
    isplitr
    · iapply (emp_from (cRs (F := F) c) (s + 1) (by omega)); iempintro
    isplitr; · iempintro
    isplitr; · iempintro
    iexact H
  | succ n ih =>
    have ih' := ih (s + 1) (by omega)
    have hp := quad_peel (cRs (F := F) c) (Fin.succ (⟨s, by omega⟩ : Fin 14))
    have hP (l : List Ob) (P : sProp 𝕄) (hl : creds c l ⊢ iprop((quad fun d u => from' (cRs (F := F) c d u) (s + 1 + 1)) ∗ P)) :
        creds (F := F) c (four (fun d u => oRsr d (Fin.succ (⟨s, by omega⟩ : Fin 14)) u) l) ⊢ iprop((quad fun d u => from' (cRs (F := F) c d u) (s + 1)) ∗ P) := by
      have h4 := creds_four c (fun d u => oRsr d (Fin.succ (⟨s, by omega⟩ : Fin 14)) u) _ _ hl
      simp only [cr_rs] at h4
      refine h4.trans ?_
      iintro ⟨⟨⟨⟨⟨A, HP⟩, D⟩, C⟩, B⟩, A'⟩
      isplitr [HP]
      · iapply hp
        isplitr [A']
        · isplitr [B]
          · isplitr [C]
            · isplitl [A]; · iexact A
              iexact D
            · iexact C
          · iexact B
        · iexact A'
      · iexact HP
    unfold owedRs
    by_cases hs : s ≤ 12
    · rw [if_pos hs]
      refine hP _ _ ?_
      have e1 : from' (cCr (F := F) c false) s = _ := from_peel (cCr (F := F) c false) (⟨s, by omega⟩ : Fin 13)
      have e2 : from' (cCr (F := F) c true) s = _ := from_peel (cCr (F := F) c true) (⟨s, by omega⟩ : Fin 13)
      rw [e1, e2]
      have : creds (F := F) c (oCred false s :: oCred true s :: owedRs n (s + 1) (by omega))
          ⊢ iprop((((quad fun d u => from' (cRs (F := F) c d u) (s + 1 + 1)) ∗ from' (cCr (F := F) c false) (s + 1) ∗ from' (cCr (F := F) c true) (s + 1)
            ∗ quad fun d u => bigSep Finset.univ (cAg (F := F) c d u)) ∗ cCr c true ⟨s, by omega⟩) ∗ cCr c false ⟨s, by omega⟩) := by
        simp only [creds]
        rw [cr_cred c false s (by omega), cr_cred c true s (by omega)]
        exact smono (smono ih' .rfl) .rfl
      refine this.trans ?_
      iintro ⟨⟨⟨H1, H2, H3, H4⟩, H5⟩, H6⟩
      isplitl [H1]; · iexact H1
      isplitl [H2 H6]
      · isplitl [H6] <;> iassumption
      isplitl [H3 H5]
      · isplitl [H5] <;> iassumption
      iexact H4
    · rw [if_neg hs]
      refine hP _ _ ?_
      have hs' : 13 ≤ s := by omega
      rw [from_none (cCr (F := F) c false) s hs', from_none (cCr (F := F) c true) s hs']
      rw [from_none (cCr (F := F) c false) (s + 1) (by omega), from_none (cCr (F := F) c true) (s + 1) (by omega)] at ih'
      exact ih'

theorem creds_all : creds (F := F) c owed ⊢ iprop(cred (tallyAt (cell c none) 0 2) ∗ (quad fun d u => bigSep Finset.univ (cRs (F := F) c d u))
    ∗ from' (cCr (F := F) c false) 0 ∗ from' (cCr (F := F) c true) 0 ∗ quad fun d u => bigSep Finset.univ (cAg (F := F) c d u)) := by
  have hp := quad_peel (cRs (F := F) c) (0 : Fin 15)
  have e (d : Bool) (u : Fin 2) : from' (cRs (F := F) c d u) ((0 : Fin 15).val) = bigSep Finset.univ (cRs (F := F) c d u) := from_zero _
  simp only [e] at hp
  have h : creds (F := F) c owed
      ⊢ iprop((((((((quad fun d u => from' (cRs (F := F) c d u) ((0 : Fin 15).val + 1)) ∗ from' (cCr (F := F) c false) 0 ∗ from' (cCr (F := F) c true) 0
          ∗ quad fun d u => bigSep Finset.univ (cAg (F := F) c d u)) ∗ cRs c true 1 0) ∗ cRs c true 0 0) ∗ cRs c false 1 0) ∗ cRs c false 0 0)
          ∗ cred (tallyAt (cell c none) 0 1)) ∗ cred (tallyAt (cell c none) 0 1)) := by
    unfold owed owedRs0
    simp only [creds, cr_rs, cr_bar]
    exact smono (smono (smono (smono (smono (smono (creds_rs c 14 0 rfl) .rfl) .rfl) .rfl) .rfl) .rfl) .rfl
  refine h.trans ?_
  rw [show (tallyAt (cell c none) 0 2 : CellTallies nD τ sig ℕ) = tallyAt (cell c none) 0 1 + tallyAt (cell c none) 0 1 from (tallyAt_add (cell c none) 0 1 1).symm]
  iintro ⟨⟨⟨⟨⟨⟨⟨H1, H2, H3, H4⟩, R11⟩, R10⟩, R01⟩, R00⟩, B0⟩, B1⟩
  isplitl [B0 B1]
  · iapply (cred_add _ _).2
    isplitl [B0] <;> iassumption
  isplitl [H1 R11 R10 R01 R00]
  · iapply hp
    isplitr [R00]
    · isplitr [R10]
      · isplitr [R01]
        · isplitr [R11] <;> iassumption
        · iassumption
      · iassumption
    · iassumption
  isplitl [H2]; · iexact H2
  isplitl [H3] <;> iassumption

end Creds

/-! ## The tokens -/

def dEquiv (d : Bool) : Dev nD ≃ Dev nD := ⟨dst d, dst (!d), dst_dst' d, dst_dst d⟩

/-- The device whose token a device is given: the one that it pays. -/
def tgt : Kind → Fin 13 → Dev nD ≃ Dev nD
  | none, j => dEquiv (j.val == 0)
  | some (.rsr d _ _), _ => dEquiv d
  | some (.agr d _ _), _ => dEquiv d
  | some (.cred d), _ => dEquiv (!d)
  | some (.rss _ _ _), _ => Equiv.refl _
  | some (.ags _ _ _), _ => Equiv.refl _
  | some (.st _ _), _ => Equiv.refl _

def tokFam (t : Kind → Fin 13 → Dev nD ≃ Dev nD) (c : Dev nD) : sProp 𝕄 :=
  bigSep Finset.univ fun k : Kind => bigSep Finset.univ fun j : Fin 13 => dutyTok ER (cell (t k j c) k) 0 j.val

theorem toks_around : (bigSep Finset.univ fun c : Dev nD => tokFam (F := F) (fun _ _ => Equiv.refl _) c) ⊢ bigSep Finset.univ fun c : Dev nD => tokFam (F := F) tgt c := by
  unfold tokFam
  rw [bigSep_univ_comm, bigSep_univ_comm (fun (c : Dev nD) (k : Kind) => bigSep Finset.univ fun j : Fin 13 => (dutyTok ER (cell (tgt k j c) k) 0 j.val : sProp 𝕄))]
  refine bigSep_mono fun k _ => ?_
  rw [bigSep_univ_comm, bigSep_univ_comm (fun (c : Dev nD) (j : Fin 13) => (dutyTok ER (cell (tgt k j c) k) 0 j.val : sProp 𝕄))]
  exact bigSep_mono fun j _ => Entails.of_eq (bigSep_univ_equiv (tgt k j) (fun c => (dutyTok ER (cell c k) 0 j.val : sProp 𝕄)))

section Toks
variable (c : Dev nD)

theorem tok_one {k : Kind} (Φ : Fin 13 → sProp 𝕄) : bigSep Finset.univ Φ ⊢ Φ 0 := bigSep_elim (Finset.mem_univ 0)

theorem tok_bar : (bigSep Finset.univ fun j : Fin 13 => (dutyTok ER (cell (tgt none j c) none) 0 j.val : sProp 𝕄))
    ⊢ iprop(dutyTok ER (cell (dst true c) none) 0 0 ∗ dutyTok ER (cell (dst false c) none) 0 1) := by
  rw [fin_first, fin_first (n := 11)]
  iintro ⟨H0, H1, -⟩
  isplitl [H0]
  · iexact H0
  · iexact H1

theorem tok_fam : tokFam (F := F) tgt c ⊢ iprop(((((quad fun d u => bigSep Finset.univ fun k : Fin 15 => dutyTok ER (cell c (some (.rss d k u))) 0 0)
      ∗ quad fun d u => bigSep Finset.univ fun k : Fin 15 => dutyTok ER (cell (dst d c) (some (.rsr d k u))) 0 0)
      ∗ (quad fun d u => bigSep Finset.univ fun k : Fin 15 => dutyTok ER (cell c (some (.ags d k u))) 0 0)
      ∗ quad fun d u => bigSep Finset.univ fun k : Fin 15 => dutyTok ER (cell (dst d c) (some (.agr d k u))) 0 0)
      ∗ (quad fun d u => dutyTok ER (cell c (some (.st d u))) 0 0) ∗ toks c false 0 ∗ toks c true 0)
      ∗ dutyTok ER (cell (dst true c) none) 0 0 ∗ dutyTok ER (cell (dst false c) none) 0 1) := by
  unfold tokFam
  rw [kinds_eq, owns_eq]
  unfold toks
  rw [from_zero, from_zero]
  refine smono (smono (smono (smono ?_ ?_) (smono ?_ ?_)) (smono ?_ .rfl)) (tok_bar c)
  · exact quad_mono fun d u => bigSep_mono fun k _ => bigSep_elim (Finset.mem_univ (0 : Fin 13))
  · exact quad_mono fun d u => bigSep_mono fun k _ => bigSep_elim (Finset.mem_univ (0 : Fin 13))
  · exact quad_mono fun d u => bigSep_mono fun k _ => bigSep_elim (Finset.mem_univ (0 : Fin 13))
  · exact quad_mono fun d u => bigSep_mono fun k _ => bigSep_elim (Finset.mem_univ (0 : Fin 13))
  · exact quad_mono fun d u => bigSep_elim (Finset.mem_univ (0 : Fin 13))

/-! ## The slots' tokens -/

abbrev K3 : Type := Bool × Fin 2 × Fin 2
def keyEquiv : Dev nD × K3 ≃ Key := Equiv.refl _

def rdAll : sProp 𝕄 := bigSep Finset.univ fun x : K3 => readerAt ES (Key.mk c x.1 x.2.1 x.2.2) 0
def wtTo (t : Bool → Dev nD ≃ Dev nD) : sProp 𝕄 :=
  bigSep Finset.univ fun x : K3 => bigSep (Finset.range 7) fun n => writeTok ES (Key.mk (t x.1 c) x.1 x.2.1 x.2.2) (n + 1)

theorem rd_all : rdAll (F := F) c ⊢ quad fun d u => rd (F := F) c d u 0 := by
  have h (d : Bool) : (bigSep Finset.univ fun x : Fin 2 × Fin 2 => (readerAt ES (Key.mk c d x.1 x.2) 0 : sProp 𝕄)) ⊢ iprop(rd c d 0 0 ∗ rd c d 1 0) := by
    unfold rd rel
    rw [if_pos (Nat.zero_le 13), if_pos (Nat.zero_le 13), pairs]
    rw [if_pos (show freed 0 0 = 0 from rfl), if_pos (show freed 1 0 = 0 from rfl)]
    iintro ⟨⟨H00, H01⟩, H10, H11⟩
    isplitl [H00 H10]
    · isplitl [H00]
      · isplitl [H00]; · iexact H00
        iempintro
      · isplitl [H10]; · iexact H10
        iempintro
    · isplitl [H01]
      · isplitl [H01]; · iexact H01
        iempintro
      · isplitl [H11]; · iexact H11
        iempintro
  unfold rdAll
  rw [bigSep_univ_prod, bool2]
  refine BIBase.Entails.trans (smono (h false) (h true)) ?_
  unfold quad
  iintro ⟨⟨A, B⟩, C, D⟩
  isplitl [A]; · iexact A
  isplitl [C]; · iexact C
  isplitl [B] <;> iassumption

theorem wt_one (d : Bool) (u : Fin 2) :
    (bigSep Finset.univ fun p : Fin 2 => bigSep (Finset.range 7) fun n => (writeTok ES (Key.mk (dst d c) d p u) (n + 1) : sProp 𝕄))
      ⊢ from' (fun k : Fin 15 => slotRight (F := F) c d u k.val) 2 := by
  have hinj : Set.InjOn (fun k : Fin 15 => ((par k.val, k.val / 2 - 1) : Fin 2 × ℕ)) ((Finset.univ.filter fun k : Fin 15 => 2 ≤ k.val : Finset (Fin 15)) : Set (Fin 15)) := by
    intro a ha b hb h
    have ha' : 2 ≤ a.val := (Finset.mem_filter.mp ha).2
    have hb' : 2 ≤ b.val := (Finset.mem_filter.mp hb).2
    have h1 : a.val % 2 = b.val % 2 := congrArg (fun x : Fin 2 × ℕ => x.1.val) h
    have h2 : a.val / 2 - 1 = b.val / 2 - 1 := congrArg Prod.snd h
    apply Fin.ext; omega
  have hsub : (Finset.univ.filter fun k : Fin 15 => 2 ≤ k.val).image (fun k : Fin 15 => ((par k.val, k.val / 2 - 1) : Fin 2 × ℕ)) ⊆ Finset.univ ×ˢ Finset.range 7 := by
    decide
  rw [← prod_eq Finset.univ (Finset.range 7) (fun x : Fin 2 × ℕ => (writeTok ES (Key.mk (dst d c) d x.1 u) (x.2 + 1) : sProp 𝕄))]
  refine (bigSep_subset hsub).trans ?_
  rw [bigSep_image_of_injOn hinj]
  unfold from'
  refine Entails.of_eq (bigSep_congr fun k hk => ?_)
  have hk' : 2 ≤ k.val := (Finset.mem_filter.mp hk).2
  unfold slotRight
  rw [if_neg (by omega), show k.val / 2 - 1 + 1 = k.val / 2 by omega]

theorem wt_all : wtTo (F := F) c dEquiv ⊢ quad fun d u => from' (fun k : Fin 15 => slotRight (F := F) c d u k.val) 2 := by
  have h (d : Bool) : (bigSep Finset.univ fun x : Fin 2 × Fin 2 => bigSep (Finset.range 7) fun n => (writeTok ES (Key.mk (dst d c) d x.1 x.2) (n + 1) : sProp 𝕄))
      ⊢ iprop(from' (fun k : Fin 15 => slotRight (F := F) c d 0 k.val) 2 ∗ from' (fun k : Fin 15 => slotRight (F := F) c d 1 k.val) 2) := by
    rw [split2]
    exact smono (wt_one c d 0) (wt_one c d 1)
  unfold wtTo
  rw [bigSep_univ_prod, bool2]
  refine BIBase.Entails.trans (smono (h false) (h true)) ?_
  unfold quad
  iintro ⟨⟨A, B⟩, C, D⟩
  isplitl [A]; · iexact A
  isplitl [C]; · iexact C
  isplitl [B] <;> iassumption

end Toks

end Cert.RingProof

end
-- ==== Proof.Start.lean ====
/-
The kernel's run on one device, from the buffers, semaphores, tokens and credits it is launched with to those it
leaves.
-/
module

public import proofs.«01_k».proof.Proof.Deal

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Start
variable (c : Dev nD)

/-- The six scratch buffers, each at some contents. -/
def scratch : sProp 𝕄 :=
  iprop(any (F := F) c (recvM false) ∗ any c (recvM true) ∗ any c (sendM false) ∗ any c (sendM true) ∗ any c (stgM false) ∗ any c (stgM true))

/-- A device's share of what is minted for the protocol. -/
def linear : sProp 𝕄 :=
  iprop((bigSep Finset.univ fun k : Kind => atPos ER (cell c k) 0 ∅ 0) ∗ tokFam (F := F) tgt c ∗ rdAll (F := F) c ∗ wtTo (F := F) c dEquiv)

abbrev bgs (Φ : Fin 15 → sProp 𝕄) : sProp 𝕄 := bigSep Finset.univ Φ

theorem rs_hold (d : Bool) (u : Fin 2) :
    iprop(bgs (fun k => atPos ER (cell c (some (.rss d k u))) 0 ∅ 0) ∗ bgs (fun k => atPos ER (cell c (some (.rsr d k u))) 0 ∅ 0)
      ∗ bgs (cRs (F := F) c d u) ∗ bgs (fun k => dutyTok ER (cell c (some (.rss d k u))) 0 0)
      ∗ bgs (fun k => dutyTok ER (cell (dst d c) (some (.rsr d k u))) 0 0))
      ⊢ bigSep Finset.univ (rsHold (F := F) c d u) := by
  unfold bgs
  rw [← bigSep_sep', ← bigSep_sep', ← bigSep_sep', ← bigSep_sep']
  exact Entails.of_eq rfl
theorem ag_hold (d : Bool) (u : Fin 2) :
    iprop(bgs (fun k => atPos ER (cell c (some (.ags d k u))) 0 ∅ 0) ∗ bgs (fun k => atPos ER (cell c (some (.agr d k u))) 0 ∅ 0)
      ∗ bgs (cAg (F := F) c d u) ∗ bgs (fun k => dutyTok ER (cell c (some (.ags d k u))) 0 0)
      ∗ bgs (fun k => dutyTok ER (cell (dst d c) (some (.agr d k u))) 0 0))
      ⊢ bigSep Finset.univ (agHold (F := F) c d u) := by
  unfold bgs
  rw [← bigSep_sep', ← bigSep_sep', ← bigSep_sep', ← bigSep_sep']
  exact Entails.of_eq rfl

/-- Everything of one ring's sub-block, listed. -/
def S0 (d : Bool) (u : Fin 2) : sProp 𝕄 :=
  iprop(bgs (fun k => atPos ER (cell c (some (.rss d k u))) 0 ∅ 0) ∗ bgs (fun k => atPos ER (cell c (some (.rsr d k u))) 0 ∅ 0)
    ∗ bgs (cRs (F := F) c d u) ∗ bgs (fun k => dutyTok ER (cell c (some (.rss d k u))) 0 0)
    ∗ bgs (fun k => dutyTok ER (cell (dst d c) (some (.rsr d k u))) 0 0)
    ∗ bgs (fun k => atPos ER (cell c (some (.ags d k u))) 0 ∅ 0) ∗ bgs (fun k => atPos ER (cell c (some (.agr d k u))) 0 ∅ 0)
    ∗ bgs (cAg (F := F) c d u) ∗ bgs (fun k => dutyTok ER (cell c (some (.ags d k u))) 0 0)
    ∗ bgs (fun k => dutyTok ER (cell (dst d c) (some (.agr d k u))) 0 0)
    ∗ from' (fun k : Fin 15 => slotRight (F := F) c d u k.val) 2 ∗ rd (F := F) c d u 0
    ∗ any (F := F) c (sendV d u) ∗ any (F := F) c (stgV d u)
    ∗ atPos ER (cell c (some (.st d u))) 0 ∅ 0 ∗ dutyTok ER (cell c (some (.st d u))) 0 0 ∗ any (F := F) c (piece d (gidx c d 0) u))

theorem S0_S1 (d : Bool) (u : Fin 2) : S0 (F := F) c d u ⊢ S1 c d u := by
  unfold S0 S1
  iintro ⟨H1, H2, H3, H4, H5, G1, G2, G3, G4, G5, W, R, A, B, P, T, X⟩
  ihave HR := (rs_hold (F := F) c d u) $$ [H1 H2 H3 H4 H5]
  · isplitl [H1]; · iexact H1
    isplitl [H2]; · iexact H2
    isplitl [H3]; · iexact H3
    isplitl [H4] <;> iassumption
  ihave HG := (ag_hold (F := F) c d u) $$ [G1 G2 G3 G4 G5]
  · isplitl [G1]; · iexact G1
    isplitl [G2]; · iexact G2
    isplitl [G3]; · iexact G3
    isplitl [G4] <;> iassumption
  isplitl [HR]; · iexact HR
  isplitl [W]; · iexact W
  isplitl [R]; · iexact R
  isplitl [HG]; · iexact HG
  isplitl [A]; · iexact A
  isplitl [B]; · iexact B
  isplitl [P]; · iexact P
  isplitl [T] <;> iassumption

theorem cw_start (d : Bool) : iprop(atPos ER (cell c (some (.cred d))) 0 ∅ 0 ∗ from' (cCr (F := F) c d) 0) ⊢ CWs (F := F) c d 0 := by
  unfold CWs CW
  iintro ⟨H, HC⟩
  isplitl [H]
  · iexists ∅
    isplitr; · ipureintro; exact ⟨Finset.empty_subset _, Nat.le_refl 0⟩
    isplitl [H]; · iexact H
    rw [bigSep_empty]; iempintro
  · iexact HC

theorem two_quad (f : Bool → Fin 2 → sProp 𝕄) : iprop((f false 0 ∗ f false 1) ∗ f true 0 ∗ f true 1) ⊢ quad f := by
  unfold quad
  iintro ⟨⟨A, B⟩, C, D⟩
  isplitl [A]; · iexact A
  isplitl [C]; · iexact C
  isplitl [B] <;> iassumption
theorem quad_two (f : Bool → Fin 2 → sProp 𝕄) : quad f ⊢ iprop((f false 0 ∗ f false 1) ∗ f true 0 ∗ f true 1) := by
  unfold quad
  iintro ⟨A, C, B, D⟩
  isplitl [A B]
  · isplitl [A] <;> iassumption
  isplitl [C] <;> iassumption

/-- A device has what its run starts with. -/
theorem start_make : iprop(linear (F := F) c ∗ creds (F := F) c owed ∗ scratch (F := F) c ∗ any (F := F) c outM) ⊢ startB c := by
  unfold linear scratch startB
  rw [kinds_eq, owns_eq]
  iintro ⟨⟨⟨⟨⟨⟨A1, A2⟩, A3, A4⟩, A5, A6, A7⟩, A8⟩, HT, HR, HW⟩, HC, ⟨B0, B1, B2, B3, B4, B5⟩, HX⟩
  ihave HT := (tok_fam (F := F) c) $$ HT
  icases HT with ⟨⟨⟨⟨T1, T2⟩, T3, T4⟩, T5, T6, T7⟩, T8, T9⟩
  ihave HC := (creds_all (F := F) c) $$ HC
  icases HC with ⟨C1, C2, C3, C4, C5⟩
  ihave HR := (rd_all (F := F) c) $$ HR
  ihave HW := (wt_all (F := F) c) $$ HW
  ihave B0 := (recv_cut (F := F) c false) $$ B0
  ihave B1 := (recv_cut (F := F) c true) $$ B1
  ihave B2 := (send_cut (F := F) c false) $$ B2
  ihave B3 := (send_cut (F := F) c true) $$ B3
  ihave B4 := (stg_cut (F := F) c false) $$ B4
  ihave B5 := (stg_cut (F := F) c true) $$ B5
  ihave HS := (two_quad fun d u => any (F := F) c (sendV d u)) $$ [B2 B3]
  · isplitl [B2] <;> iassumption
  ihave HG := (two_quad fun d u => any (F := F) c (stgV d u)) $$ [B4 B5]
  · isplitl [B4] <;> iassumption
  ihave HX := (out_cut (F := F) c) $$ HX
  ihave HX := (Entails.of_eq (quad_sep (fun d u => any (F := F) c (piece d (gidx c d 0) u)) (fun d u => outRest c d u))) $$ HX
  icases HX with ⟨HX, HO⟩
  ihave HO := (quad_two fun d u => outRest (F := F) c d u) $$ HO
  icases HO with ⟨⟨O0, O1⟩, O2, O3⟩
  isplitl [C1]; · iexact C1
  isplitl [A8]; · iexact A8
  isplitl [T8]; · iexact T8
  isplitl [T9]; · iexact T9
  isplitl [B0 O0 O1]
  · iapply (bar_make (F := F) c false)
    unfold slots
    isplitl [B0]; · iexact B0
    isplitl [O0] <;> iassumption
  isplitl [B1 O2 O3]
  · iapply (bar_make (F := F) c true)
    unfold slots
    isplitl [B1]; · iexact B1
    isplitl [O2] <;> iassumption
  isplitr [A6 A7 C3 C4 T6 T7]
  · iapply (show (quad fun d u => S0 (F := F) c d u) ⊢ quad fun d u => S1 c d u from quad_mono fun d u => S0_S1 c d u)
    unfold S0
    simp only [quad_sep]
    isplitl [A1]; · iexact A1
    isplitl [A2]; · iexact A2
    isplitl [C2]; · iexact C2
    isplitl [T1]; · iexact T1
    isplitl [T2]; · iexact T2
    isplitl [A3]; · iexact A3
    isplitl [A4]; · iexact A4
    isplitl [C5]; · iexact C5
    isplitl [T3]; · iexact T3
    isplitl [T4]; · iexact T4
    isplitl [HW]; · iexact HW
    isplitl [HR]; · iexact HR
    isplitl [HS]; · iexact HS
    isplitl [HG]; · iexact HG
    isplitl [A5]; · iexact A5
    isplitl [T5] <;> iassumption
  isplitl [A6 A7 C3 C4]
  · isplitl [A6 C3]
    · iapply (cw_start c false)
      isplitl [A6] <;> iassumption
    · iapply (cw_start c true)
      isplitl [A7] <;> iassumption
  isplitl [T6] <;> iassumption

/-! ## The end -/

/-- All semaphores of a device at zero. -/
def zeros : sProp 𝕄 := bigSep Finset.univ fun k : Kind => semVal (cell c k) 0

/-- Everything of one ring's sub-block at the end, listed. -/
def E0 (I : Ins F) (d : Bool) (u : Fin 2) : sProp 𝕄 :=
  iprop(bgs (fun k => semVal (cell c (some (.rss d k u))) 0) ∗ bgs (fun k => semVal (cell c (some (.rsr d k u))) 0)
    ∗ bgs (fun k => semVal (cell c (some (.ags d k u))) 0) ∗ bgs (fun k => semVal (cell c (some (.agr d k u))) 0)
    ∗ semVal (cell c (some (.st d u))) 0
    ∗ (any (F := F) c (recvV d 0 u) ∗ any (F := F) c (recvV d 1 u)) ∗ any (F := F) c (sendV d u) ∗ any (F := F) c (stgV d u)
    ∗ bigSep Finset.univ fun r : Fin 16 => has c (piece d r u) (FP I d r u))

theorem E1_E0 (I : Ins F) (d : Bool) (u : Fin 2) : E1 I c d u ⊢ E0 c I d u := by
  have hb : below (agPast (F := F) I c d u) ((14 : Fin 15).val + 1) = bigSep Finset.univ (agPast (F := F) I c d u) := below_top _
  have hr : bigSep Finset.univ (rsPast (F := F) c d u)
      = iprop(bgs (fun k => semVal (cell c (some (.rss d k u))) 0) ∗ bgs (fun k => semVal (cell c (some (.rsr d k u))) 0)) := bigSep_sep' _ _ _
  have ha : bigSep Finset.univ (agPast (F := F) I c d u)
      = iprop(bgs (fun k => semVal (cell c (some (.ags d k u))) 0) ∗ bgs (fun k => semVal (cell c (some (.agr d k u))) 0)
        ∗ bgs (fun k => agsPay I c d k u)) := by
    unfold bgs
    rw [← bigSep_sep', ← bigSep_sep']; rfl
  unfold E1 E0 rsDone agMid
  rw [hb, hr, ha]
  iintro ⟨⟨⟨H1, H2⟩, R0, R1, S⟩, ⟨⟨H3, H4, HP⟩, -, HL⟩, HZ, HF, HG⟩
  ihave HE := (piece_end c I d u) $$ [HP HF HL HG]
  · isplitl [HP]; · iexact HP
    isplitl [HF]; · iexact HF
    isplitl [HL]; · iexact HL
    iexact HG
  icases HE with ⟨HG, HX⟩
  isplitl [H1]; · iexact H1
  isplitl [H2]; · iexact H2
  isplitl [H3]; · iexact H3
  isplitl [H4]; · iexact H4
  isplitl [HZ]; · iexact HZ
  isplitl [R0 R1]
  · isplitl [R0] <;> iassumption
  isplitl [S]; · iexact S
  isplitl [HG] <;> iassumption

theorem recv_back (d : Bool) : iprop((any (F := F) c (recvV d 0 0) ∗ any (F := F) c (recvV d 1 0)) ∗ any (F := F) c (recvV d 0 1) ∗ any (F := F) c (recvV d 1 1))
    ⊢ any c (recvM d) := by
  refine BIBase.Entails.trans ?_ (recv_join c d)
  rw [pairs]
  iintro ⟨⟨A, B⟩, C, D⟩
  isplitl [A C]
  · isplitl [A] <;> iassumption
  isplitl [B] <;> iassumption

/-- What a device's run leaves: its semaphores at zero, its scratch buffers, the whole result. -/
theorem end_make (I : Ins F) : doneB I c ⊢ iprop(zeros (F := F) c ∗ scratch (F := F) c ∗ has c outM (outX I)) := by
  unfold doneB zeros scratch
  rw [kinds_eq, owns_eq]
  iintro ⟨HB, HE, C0, C1⟩
  ihave HE := (show (quad fun d u => E1 I c d u) ⊢ quad fun d u => E0 c I d u from quad_mono fun d u => E1_E0 c I d u) $$ HE
  unfold E0
  simp only [quad_sep (fun d u => bgs fun k => semVal (cell c (some (.rss d k u))) 0), quad_sep (fun d u => bgs fun k => semVal (cell c (some (.rsr d k u))) 0),
    quad_sep (fun d u => bgs fun k => semVal (cell c (some (.ags d k u))) 0), quad_sep (fun d u => bgs fun k => semVal (cell c (some (.agr d k u))) 0),
    quad_sep (fun d u => semVal (cell c (some (.st d u))) 0), quad_sep (fun d u => iprop(any (F := F) c (recvV d 0 u) ∗ any (F := F) c (recvV d 1 u))),
    quad_sep (fun d u => any (F := F) c (sendV d u)), quad_sep (fun d u => any (F := F) c (stgV d u))]
  icases HE with ⟨A1, A2, A3, A4, A5, R, S, G, X⟩
  ihave R := (quad_two fun d u => iprop(any (F := F) c (recvV d 0 u) ∗ any (F := F) c (recvV d 1 u))) $$ R
  icases R with ⟨R0, R1⟩
  ihave S := (quad_two fun d u => any (F := F) c (sendV d u)) $$ S
  icases S with ⟨S0, S1⟩
  ihave G := (quad_two fun d u => any (F := F) c (stgV d u)) $$ G
  icases G with ⟨G0, G1⟩
  isplitl [HB C0 C1 A1 A2 A3 A4 A5]
  · isplitr [HB]
    · isplitl [A1 A2 A3 A4]
      · isplitl [A1 A2]
        · isplitl [A1] <;> iassumption
        isplitl [A3] <;> iassumption
      isplitl [A5]; · iexact A5
      isplitl [C0] <;> iassumption
    · iexact HB
  isplitr [X]
  · isplitl [R0]; · iapply (recv_back (F := F) c false); iexact R0
    isplitl [R1]; · iapply (recv_back (F := F) c true); iexact R1
    isplitl [S0]; · iapply (send_join (F := F) c false); iexact S0
    isplitl [S1]; · iapply (send_join (F := F) c true); iexact S1
    isplitl [G0]; · iapply (stg_join (F := F) c false); iexact G0
    iapply (stg_join (F := F) c true); iexact G1
  · iapply (out_join c I); iexact X

end Start

end Cert.RingProof

end
-- ==== Proof.Fund.lean ====
/-
What the launch mints for the protocol, how it is dealt to the devices, and the semaphores' invariants.
-/
module

public import proofs.«01_k».proof.Proof.Start

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Fund
variable (I : Ins F)

/-! ## What the launch mints, and how it is dealt -/

def cellsAll : Finset (GSem nD τ sig) := Finset.univ.map ⟨fun x : Dev nD × Kind => cell x.1 x.2, cell_injective⟩

abbrev tokOf (x : Dev nD × Kind × Fin 13) : GSem nD τ sig × ℕ × ℕ := (cell x.1 x.2.1, 0, x.2.2.val)
theorem tokOf_injective : Function.Injective tokOf := by
  rintro ⟨c, k, j⟩ ⟨c', k', j'⟩ h
  have h1 : ((c, k) : Dev nD × Kind) = (c', k') := cell_injective (congrArg Prod.fst h)
  have h2 : j = j' := Fin.ext (congrArg (fun x : GSem nD τ sig × ℕ × ℕ => x.2.2) h)
  rw [Prod.mk.injEq] at h1
  rw [h1.1, h1.2, h2]
def toksAll : Finset (GSem nD τ sig × ℕ × ℕ) := Finset.univ.map ⟨tokOf, tokOf_injective⟩

def u₀ : UU :=
  (initOf (Pipeline.cells cfgs cellOf_inj) (Pipeline.launchToks cfgs cellOf_inj), (initOf cellsAll toksAll, initSlots Finset.univ 7))

/-- What every device knows of the rounds and of the receive slots from the start. -/
def known (ν : Key → ℕ) : sProp 𝕄 :=
  iprop((bigSep Finset.univ fun x : Dev nD × Kind => reached ER (cell x.1 x.2) 0)
    ∗ (bigSep Finset.univ fun k : Key => slotInv ES (ν k) k (slotAny (F := F) k)))
instance known_persistent (ν : Key → ℕ) : BI.Persistent (known (F := F) ν) := by unfold known; infer_instance

/-- A device's share of what is minted. -/
def G (c : Dev nD) : sProp 𝕄 :=
  iprop((bigSep Finset.univ fun k : Kind => roundState ER (Rd I) (cell c k) 0) ∗ (∃ ν, known (F := F) ν) ∗ linear (F := F) c)

/-- What a device holds once every semaphore's invariant is there. -/
def G' (c : Dev nD) : sProp 𝕄 :=
  iprop((∃ κ : Dev nD × Kind → ℕ, ∃ ν : Key → ℕ, (bigSep Finset.univ fun x : Dev nD × Kind => cellInv ER (Rd I) (κ x) (cell x.1 x.2)) ∗ known (F := F) ν) ∗ linear (F := F) c)

theorem cells_dealt (Φ : GSem nD τ sig → sProp 𝕄) : bigSep cellsAll Φ = bigSep Finset.univ fun c : Dev nD => bigSep Finset.univ fun k : Kind => Φ (cell c k) := by
  unfold cellsAll; rw [bigSep_map, bigSep_univ_prod]; rfl
theorem cells_all (Φ : GSem nD τ sig → sProp 𝕄) : bigSep cellsAll Φ = bigSep Finset.univ fun x : Dev nD × Kind => Φ (cell x.1 x.2) := by
  unfold cellsAll; rw [bigSep_map]; rfl
theorem toks_dealt : bigSep toksAll (fun x => (dutyTok ER x.1 x.2.1 x.2.2 : sProp 𝕄)) = bigSep Finset.univ fun c : Dev nD => tokFam (F := F) (fun _ _ => Equiv.refl _) c := by
  unfold toksAll; rw [bigSep_map, bigSep_univ_prod]
  refine bigSep_congr fun c _ => ?_
  rw [bigSep_univ_prod]; rfl

theorem key_dealt (Φ : Key → sProp 𝕄) : bigSep Finset.univ Φ = bigSep Finset.univ fun c : Dev nD => bigSep Finset.univ fun x : K3 => Φ (Key.mk c x.1 x.2.1 x.2.2) := by
  rw [bigSep_univ_equiv keyEquiv Φ, bigSep_univ_prod]; rfl

theorem wt_dealt : (bigSep ((Finset.univ : Finset Key) ×ˢ Finset.range 7) fun x => (writeTok ES x.1 (x.2 + 1) : sProp 𝕄))
    = bigSep Finset.univ fun c : Dev nD => wtTo (F := F) c (fun _ => Equiv.refl _) := by
  rw [prod_eq, key_dealt]; rfl

theorem wt_around : (bigSep Finset.univ fun c : Dev nD => wtTo (F := F) c (fun _ => Equiv.refl _)) ⊢ bigSep Finset.univ fun c : Dev nD => wtTo (F := F) c dEquiv := by
  unfold wtTo
  rw [bigSep_univ_comm, bigSep_univ_comm (fun (c : Dev nD) (x : K3) => bigSep (Finset.range 7) fun n => (writeTok ES (Key.mk (dEquiv x.1 c) x.1 x.2.1 x.2.2) (n + 1) : sProp 𝕄))]
  refine bigSep_mono fun x _ => ?_
  exact Entails.of_eq (bigSep_univ_equiv (dEquiv x.1) (fun c => bigSep (Finset.range 7) fun n => (writeTok ES (Key.mk c x.1 x.2.1 x.2.2) (n + 1) : sProp 𝕄)))

theorem with_known {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := bigSep_with_persistent fun c _ => h c

theorem deal (ν : Key → ℕ) (c : Dev nD) :
    iprop(known (F := F) ν ∗ ((bigSep Finset.univ fun k : Kind => roundState ER (Rd I) (cell c k) 0)
      ∗ (bigSep Finset.univ fun k : Kind => atPos ER (cell c k) 0 ∅ 0) ∗ tokFam (F := F) tgt c ∗ rdAll (F := F) c ∗ wtTo (F := F) c dEquiv)) ⊢ G I c := by
  unfold G linear
  iintro ⟨#HK, H1, H2⟩
  isplitl [H1]; · iexact H1
  isplitr
  · iexists ν; iexact HK
  iexact H2

theorem fund_all : BI.own ((embR : Emb (UB × USlots Key) (MT nD τ sig ℕ (Elt F) ℕ UU ℕ)) (initOf cellsAll toksAll, initSlots Finset.univ 7))
    ⊢ (|={Set.univ}=> bigSep Finset.univ (G I) : sProp 𝕄) := by
  iintro H
  ihave H := (own_pair_emb embR (initOf cellsAll toksAll) (initSlots Finset.univ 7)) $$ H
  icases H with ⟨HR, HS⟩
  imod (Rounds.fund ER (Rd I) cellsAll toksAll) $$ HR with ⟨Hst, Hre, Hat, Htok⟩
  imod (slots_init ES Finset.univ 7 (slotAny (F := F))) $$ HS with ⟨%ν, -, HI, Hr, Hw⟩
  imodintro
  ihave Hst := (Entails.of_eq (cells_dealt fun g => roundState ER (Rd I) g 0)) $$ Hst
  ihave Hat := (Entails.of_eq (cells_dealt (F := F) fun g => atPos ER g 0 ∅ 0)) $$ Hat
  ihave Hre := (Entails.of_eq (cells_all (F := F) fun g => reached ER g 0)) $$ Hre
  ihave Htok := ((Entails.of_eq (toks_dealt (F := F))).trans toks_around) $$ Htok
  ihave Hr := (Entails.of_eq (key_dealt (F := F) fun k => readerAt ES k 0)) $$ Hr
  ihave Hw := ((Entails.of_eq (wt_dealt (F := F))).trans wt_around) $$ Hw
  iapply (with_known (deal I ν))
  isplitl [Hre HI]
  · unfold known
    isplitl [Hre] <;> iassumption
  rw [bigSep_sep', bigSep_sep', bigSep_sep', bigSep_sep']
  isplitl [Hst]; · iexact Hst
  isplitl [Hat]; · iexact Hat
  isplitl [Htok]; · iexact Htok
  isplitl [Hr]; · iexact Hr
  iexact Hw

/-! ## The semaphores' invariants -/

theorem unscopedSems0_eq (c : Dev nD) : (unscopedSems0 c : sProp 𝕄) = semVal (cell c none) 0 := by
  unfold unscopedSems0; rw [bigSep_eq_bigSepL_of_eq [SemLoc.reg barSem] (by decide) (by decide)]; rfl

theorem sems_zeros (c : Dev nD) :
    iprop(Pipeline.ownSems0 (Ix := ℕ) (Name := ℕ) (U := UU) (Lvl := ℕ) (Val := Elt F) (τ := τ) osem c ∗ unscopedSems0 c) = (zeros (F := F) c : sProp 𝕄) := by
  unfold zeros Pipeline.ownSems0
  rw [kinds_eq, unscopedSems0_eq]; rfl

theorem core_alloc (c : Dev nD) :
    iprop(Pipeline.ownSems0 (Ix := ℕ) (Name := ℕ) (U := UU) (Lvl := ℕ) (Val := Elt F) (τ := τ) osem c ∗ unscopedSems0 c ∗ G I c)
      ⊢ |={Set.univ}=> iprop((bigSep Finset.univ fun k : Kind => iprop(∃ κ : ℕ, cellInv ER (Rd I) κ (cell c k))) ∗ (∃ ν, known (F := F) ν) ∗ linear (F := F) c) := by
  unfold G
  iintro ⟨Hos, Hus, Hst, HK, HL⟩
  ihave Hv := (Entails.of_eq (sems_zeros (F := F) c)) $$ [Hos Hus]
  · isplitl [Hos] <;> iassumption
  unfold zeros
  imod (show iprop((bigSep Finset.univ fun k : Kind => semVal (cell c k) 0) ∗ bigSep Finset.univ fun k : Kind => roundState ER (Rd I) (cell c k) 0)
      ⊢ (|={Set.univ}=> bigSep Finset.univ fun k : Kind => iprop(∃ κ : ℕ, cellInv ER (Rd I) κ (cell c k)) : sProp 𝕄) from by
        rw [← bigSep_sep']
        exact (bigSep_mono fun k _ => (Rounds.body_intro ER (Rd I) (cell c k)).trans inv_alloc).trans (bigSep_fupd _ _)) $$ [Hv Hst] with Hinv
  · isplitl [Hv] <;> iassumption
  imodintro
  isplitl [Hinv]; · iexact Hinv
  isplitl [HK]; · iexact HK
  iexact HL

def allInv (κ : Dev nD × Kind → ℕ) : sProp 𝕄 := bigSep Finset.univ fun x : Dev nD × Kind => cellInv ER (Rd I) (κ x) (cell x.1 x.2)
instance allInv_persistent (κ : Dev nD × Kind → ℕ) : BI.Persistent (allInv I κ) := by unfold allInv; infer_instance

theorem G'_make (κ : Dev nD × Kind → ℕ) (c : Dev nD) : iprop(allInv I κ ∗ ((∃ ν, known (F := F) ν) ∗ linear (F := F) c)) ⊢ G' I c := by
  unfold G' allInv
  iintro ⟨#HI, ⟨%ν, HK⟩, HL⟩
  isplitl [HK]
  · iexists κ; iexists ν
    isplitr; · iexact HI
    iexact HK
  iexact HL

theorem regroup :
    (bigSep Finset.univ fun c : Dev nD => iprop((bigSep Finset.univ fun k : Kind => iprop(∃ κ : ℕ, cellInv ER (Rd I) κ (cell c k))) ∗ (∃ ν, known (F := F) ν) ∗ linear (F := F) c) : sProp 𝕄)
      ⊢ bigSep Finset.univ (G' I) := by
  rw [bigSep_sep', ← bigSep_univ_prod (fun x : Dev nD × Kind => iprop(∃ κ : ℕ, cellInv ER (Rd I) κ (cell x.1 x.2)))]
  iintro ⟨HI, HL⟩
  ihave HK := (BI.bigSep_exists_pi Finset.univ (fun (x : Dev nD × Kind) (κ : ℕ) => (cellInv ER (Rd I) κ (cell x.1 x.2) : sProp 𝕄))) $$ HI
  icases HK with ⟨%κ, HI⟩
  iapply (with_known (G'_make I κ))
  isplitl [HI]
  · unfold allInv; iexact HI
  iexact HL

theorem glob : (bigSep Finset.univ fun c => iprop(Pipeline.ownSems0 (Ix := ℕ) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end Fund

end Cert.RingProof

end
-- ==== Proof.StepsEq.lean ====
/- The printed body is the program of steps. -/
module

public import proofs.«01_k».proof.Proof.Steps
public import proofs.«01_k».proof.Proof.Gen.KernelIdeal.Launch
public import Idealize.ShloMosaic.Lib.Pipeline.Regions

@[expose] public section

set_option maxRecDepth 100000
set_option maxHeartbeats 0

noncomputable section

namespace Cert.RingProof

open Cert.KernelIdeal Cert.KernelIdeal.Gen
open Idealize.ShloMosaic Idealize.ShloMosaic.TcCoe
open Idealize.SL Idealize.SL.Sem

variable {F : FTy → Type} [FloatOps F]

theorem body_eq_steps : (bodyAt0 (F := F) t0_0) =
    steps (win0_0.stage (cfg0.slots t0_0 0)) (win0_1.stage (cfg0.slots t0_0 1)) (win0_2.stage (cfg0.slots t0_0 2)) (win0_3.stage (cfg0.slots t0_0 3)) := by
  chain_rfl

end Cert.RingProof

end
-- ==== Proof.Region.lean ====
/-
The program's run: the kernel's body inside the call, and the whole program from any memory.
-/
module

public import proofs.«01_k».proof.Proof.Fund
public import proofs.«01_k».proof.Proof.StepsEq
public import Idealize.ShloMosaic.Lib.Pipeline.CollectiveSegs

@[expose] public section

set_option maxRecDepth 100000

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

open Idealize.ShloMosaic.Pipeline (Dat BodyObligation)

section Region
variable (m : (ℓ : Loc nD τ sig) → Buf (Elt F) ℓ) (ρ : Dev nD → PrngReg)

def s₀ : MemSt nD τ sig (Elt F) := ⟨m, fun _ => 0, ρ⟩

/-- What every device finds in its staging buffers: its arguments. -/
def ins : Ins F where
  sx c := (win0_0.blk t0_0).view.read (Elt F) (m ((c : Thread nD τ).loc main_arg2))
  sw c := (win0_1.blk t0_0).view.read (Elt F) (m ((c : Thread nD τ).loc main_arg3))
  x c := (win0_2.blk t0_0).view.read (Elt F) (m ((c : Thread nD τ).loc main_arg0))
  w c := (win0_3.blk t0_0).view.read (Elt F) (m ((c : Thread nD τ).loc main_arg1))

def known' : sProp 𝕄 := iprop(∃ κ : Dev nD × Kind → ℕ, ∃ ν : Key → ℕ, recs (ins m) κ ν)

def Φ₀ (c : Dev nD) : sProp 𝕄 := iprop(known' m ∗ startB (F := F) c)
def Φ₁ (c : Dev nD) : sProp 𝕄 := iprop(zeros (F := F) c ∗ scratch (F := F) c ∗ has c outM (outX (ins m)))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (ins m).sx c
    | ⟨1, _⟩ => (ins m).sw c
    | ⟨2, _⟩ => (ins m).x c
    | ⟨3, _⟩ => (ins m).w c
  Φ t := match t with
    | ⟨0, _⟩ => Φ₀ m c
    | ⟨_ + 1, _⟩ => Φ₁ m c
  q _ := fullShare
  owed t := match t with
    | ⟨0, _⟩ => lsum c owed
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stgAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stgAt c cc0_stg0_0 ((dats m ρ 0 c).before (0 : Fin 4) t0_0 d))
    ∗ (∃ d, stgAt c cc0_stg1_0 ((dats m ρ 0 c).before (1 : Fin 4) t0_0 d))
    ∗ (∃ d, stgAt c cc0_stg2_0 ((dats m ρ 0 c).before (2 : Fin 4) t0_0 d))
    ∗ (∃ d, stgAt c cc0_stg3_0 ((dats m ρ 0 c).before (3 : Fin 4) t0_0 d)))

def bodyPost (c : Dev nD) : sProp 𝕄 :=
  iprop(Φ₁ m c ∗ (dats m ρ 0 c).owesAt 0 t0_0.succ ∗ stgAt c cc0_stg0_0 ((ins m).sx c) ∗ stgAt c cc0_stg1_0 ((ins m).sw c)
    ∗ stgAt c cc0_stg2_0 ((ins m).x c) ∗ stgAt c cc0_stg3_0 ((ins m).w c))

theorem before0 (c : Dev nD) (d) : (dats m ρ 0 c).before (0 : Fin 4) t0_0 d = (ins m).sx c := by
  unfold Dat.before; rw [if_pos (fetch0_0 t0_0)]; rfl
theorem before1 (c : Dev nD) (d) : (dats m ρ 0 c).before (1 : Fin 4) t0_0 d = (ins m).sw c := by
  unfold Dat.before; rw [if_pos (fetch0_1 t0_0)]; rfl
theorem before2 (c : Dev nD) (d) : (dats m ρ 0 c).before (2 : Fin 4) t0_0 d = (ins m).x c := by
  unfold Dat.before; rw [if_pos (fetch0_2 t0_0)]; rfl
theorem before3 (c : Dev nD) (d) : (dats m ρ 0 c).before (3 : Fin 4) t0_0 d = (ins m).w c := by
  unfold Dat.before; rw [if_pos (fetch0_3 t0_0)]; rfl

/-- The body, from what the call starts from to what it leaves. -/
theorem sound_body (c : Dev nD) : bodyPre m ρ c ⊢ WP c (steps sxM swM xM wM) (fun _ => bodyPost m ρ c) := by
  unfold bodyPre
  iintro ⟨HΦ, Ho, ⟨%d0, %g0, %hg0, H0⟩, ⟨%d1, %g1, %hg1, H1⟩, ⟨%d2, %g2, %hg2, H2⟩, ⟨%d3, %g3, %hg3, H3⟩⟩
  rw [before0] at hg0
  rw [before1] at hg1
  rw [before2] at hg2
  rw [before3] at hg3
  subst hg0 hg1 hg2 hg3
  unfold Φ₀ known'
  icases HΦ with ⟨⟨%κ, %ν, #HR⟩, HS⟩
  unfold Dat.owesAt Pipeline.owesWithin
  icases Ho with ⟨%W, %hW, HO⟩
  rw [show (dats m ρ 0 c).owed t0_0.castSucc = lsum c owed from rfl]
  iapply (wp_steps (ins m) κ ν c (fun _ => bodyPost m ρ c)) $$ [HS HO H0 H1 H2 H3]
  · isplitr; · iexact HR
    isplitl [H0 H1 H2 H3]
    · unfold inp
      isplitl [H0]; · iexact H0
      isplitl [H1]; · iexact H1
      isplitl [H2] <;> iassumption
    isplitl [HS]; · iexact HS
    unfold O
    iexists W; iexact HO
  iintro ⟨HI, HD, HO⟩
  imodintro
  unfold O inp
  icases HO with ⟨%W', HO⟩
  icases HI with ⟨H0, H1, H2, H3⟩
  ihave HD := (end_make (F := F) c (ins m)) $$ HD
  unfold bodyPost Φ₁ Dat.owesAt Pipeline.owesWithin
  rw [show (dats m ρ 0 c).owed t0_0.succ = lsum c [] from rfl]
  isplitl [HD]; · iexact HD
  isplitl [HO]
  · iexists W'
    isplitr
    · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-- The body obligation of the call on core `c`. -/
theorem body_obligation (c : Dev nD) : BodyObligation (dats m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (bodyAt0 (F := F) t0_0) (fun _ => bodyPost m ρ c)
  rw [body_eq_steps]
  exact sound_body m ρ c

/-! ## The launch -/

theorem share_eq (c : Dev nD) (w : Fin cfg0.W) : (dats m ρ 0 c).share w = fullShare := by unfold Dat.share; split <;> rfl

theorem ownSemFacts : Pipeline.OwnSemFacts cfg0.spec osem :=
  ⟨fun k => by
      rcases k with ⟨d, k, u⟩ | ⟨d, k, u⟩ | ⟨d, k, u⟩ | ⟨d, k, u⟩ | ⟨d, u⟩ | d
      · revert d k u; decide
      · revert d k u; decide
      · revert d k u; decide
      · revert d k u; decide
      · revert d u; decide
      · revert d; decide,
   fun a b h => Option.some_injective _ (asem_injective h),
   fun k w s h => by
    have h1 : kindOf (osem k) = some (some k) := kindOf_asem (some k)
    rw [h] at h1
    have h2 : kindOf (.dma ((cfg0.spec w).sem s)) = none := by fin_cases w <;> fin_cases s <;> decide
    rw [h2] at h1; cases h1⟩

theorem waits (c : Dev nD) : (levAts L lv : sProp 𝕄) ⊢ Pipeline.cellsWaits cfgs (dats m ρ) 0 0 c :=
  Pipeline.cellsWaits_intro cfgs (dats m ρ) 0 0 c fun w s t => by
    have hlv : lv ((c : Thread nD τ), .dma ((cfg0.spec w).sem s)) 0 ≤ 0 := by
      unfold lv
      rw [show kindOf (.dma ((cfg0.spec w).sem s)) = none by fin_cases w <;> fin_cases s <;> decide]
    rcases t with ⟨_ | _, ht⟩
    · exact mayWait_of_above c _ 0 0 owed (by decide) hlv above_all
    · exact mayWait_of_above c _ 0 0 [] (by decide) hlv (fun o ho => absurd ho List.not_mem_nil)

theorem scratch_eq (c : Dev nD) : (Pipeline.scopedRest cfg0.spec c : sProp 𝕄) = scratch (F := F) c := by
  rw [scopedRest0_eq]
  unfold scratch
  rw [show recvM false = Memref.whole cc0_scratch0 from rfl, show recvM true = Memref.whole cc0_scratch1 from rfl,
    show sendM false = Memref.whole cc0_scratch2 from rfl, show sendM true = Memref.whole cc0_scratch3 from rfl,
    show stgM false = Memref.whole cc0_scratch4 from rfl, show stgM true = Memref.whole cc0_scratch5 from rfl]
  simp only [any_whole]

def X (c : Dev nD) : sProp 𝕄 := iprop(known' m ∗ linear (F := F) c ∗ creds (F := F) c owed ∗ any (F := F) c outM)
def Y (c : Dev nD) : sProp 𝕄 := iprop(unscopedSems0 c ∗ ((c : Thread nD τ).loc main_v1 ↦{fullShare} outX (ins m)))

theorem start_intro (c : Dev nD) :
    iprop(Pipeline.unscopedRestP Pipeline.Prefetch.none cfg0.spec c (fun b => m ((c : Thread nD τ).loc b)) ∗ levAts L lv
        ∗ Pipeline.launchCred (fun d => lsum d owed) c ∗ prngReg c (ρ c) ∗ G' (ins m) c)
      ⊢ |={Set.univ}=> iprop(X m c ∗ emp) := by
  rw [Pipeline.unscopedRestP_none, unscopedRest0_eq]
  unfold G'
  iintro ⟨Hv, Hlev, Hcr, -, ⟨%κ, %ν, #HI, #HK⟩, HL⟩
  ihave Hc := (launch_creds (F := F) c owed) $$ Hcr
  imodintro
  isplitr []
  · unfold X known' recs levs
    isplitl [Hlev]
    · iexists κ; iexists ν
      isplitr; · iexact HI
      unfold known
      icases HK with ⟨HK1, HK2⟩
      isplitr; · iexact HK1
      isplitr; · iexact HK2
      iexact Hlev
    isplitl [HL]; · iexact HL
    isplitl [Hc]; · iexact Hc
    rw [show (outM : Memref sig .tc .hbm S4096x8192 .f32) = Memref.whole main_v1 from rfl, any_whole]
    iexists _; iexact Hv
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀ X
  iintro ⟨⟨HK, HL, HC, HA⟩, -, HS⟩
  isplitl [HK]; · iexact HK
  iapply (start_make (F := F) c)
  isplitl [HL]; · iexact HL
  isplitl [HC]; · iexact HC
  isplitl [HS] <;> iassumption

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scratch_eq]
  unfold Φ₁ Y
  rw [← sems_zeros]
  unfold has
  rw [show (outM : Memref sig .tc .hbm S4096x8192 .f32) = Memref.whole main_v1 from rfl, owns_whole_eq]
  iintro ⟨⟨H1, H2⟩, HS, ⟨%f, %hf, Hf⟩⟩
  subst hf
  isplitl [H2 Hf]
  · isplitl [H2] <;> iassumption
  isplitl [H1] <;> iassumption

/-- What a final state is known to hold: every device's result, its arguments as they were, every counter zero. -/
def Final (s : MemSt nD τ sig (Elt F)) : Prop :=
  (∀ c : Dev nD, s.mem ((c : Thread nD τ).loc main_v1) = outX (ins m)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)) ∧ s.sem = fun _ => 0

theorem read_out (c : Dev nD) (s' : Phys nD τ sig (Elt F)) :
    iprop(((c : Thread nD τ).loc main_v1 ↦{fullShare} outX (ins m)) ∗ SI s')
      ⊢ (iprop(⌜s'.mem.mem ((c : Thread nD τ).loc main_v1) = outX (ins m)⌝ ∗ SI s') : sProp 𝕄) := by
  iintro ⟨H, HSI⟩
  ihave H := (pointsTo_read_all ({()} : Finset Unit) (fun _ => (c : Thread nD τ).loc main_v1) (fun _ => outX (ins m)) s' fullShare) $$ [H HSI]
  · isplitl [H]
    · rw [bigSep_singleton]; iexact H
    · iexact HSI
  icases H with ⟨%h, HSI⟩
  isplitr
  · ipureintro; exact h () (Finset.mem_singleton_self _)
  iexact HSI

set_option maxRecDepth 1000000 in
/-- On sixteen devices, for any float values, from any memory with zero counters: every weakly fair execution of the
    program terminates without a fault, and its final state is `Final`. -/
theorem run_main : θ_run defs (onTc (τ := τ) (main (F := F))) (s₀ m ρ) (fun r => Final m r.2) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => lsum c owed) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_all (ins m)) $$ HX with HG
      imodintro
      isplitl [HP] <;> iassumption)
    (hglob := glob (ins m))
    (hA := fun _ _ => rfl) (hpf := fun _ k => k.elim0)
    (X := X m) (Y := Y m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_v1) = outX (ins m))
    (hY := fun c s' => by
      unfold Y
      iintro ⟨⟨Hu, Hv⟩, -, HSI⟩
      ihave H := (read_out m c s') $$ [Hv HSI]
      · isplitl [Hv] <;> iassumption
      icases H with ⟨%h1, HSI⟩
      imod (Pipeline.unscopedSems0_read (X := unscopedSems0 c) (c := c) fupd_intro s') $$ [Hu HSI] with ⟨%h2, HSI⟩
      · isplitl [Hu] <;> iassumption
      imodintro
      isplitr
      · ipureintro; exact ⟨h2, h1⟩
      iexact HSI)
    (hQ := fun s h hs => ⟨fun c => ⟨(h c).2.2.2,
        ((h c).1 (2 : Fin 4)).trans ((dats (F := F) m ρ 0 c).arrAt_in (2 : Fin 4) rfl _),
        ((h c).1 (3 : Fin 4)).trans ((dats (F := F) m ρ 0 c).arrAt_in (3 : Fin 4) rfl _),
        ((h c).1 (0 : Fin 4)).trans ((dats (F := F) m ρ 0 c).arrAt_in (0 : Fin 4) rfl _),
        ((h c).1 (1 : Fin 4)).trans ((dats (F := F) m ρ 0 c).arrAt_in (1 : Fin 4) rfl _)⟩,
      sem_eq_zero hs fun c => (h c).2.2.1⟩)

end Region

end Cert.RingProof

end
-- ==== Proof.Value.lean ====
/-
The kernel's result as the reference writes it. Each partial sum of the ring is the 32-bit word of an exact
integer, the sum of the shares of the devices it has passed; after all sixteen it is the word of the whole dot
product of 4096 terms, which is far below 2 ^ 31, so that the word read as an integer is the dot product itself.
-/
module

public import proofs.«01_k».proof.Proof.Region
public import proofs.«01_k».proof.Proof.Gen.ReferenceIdeal
public import proofs.«01_k».proof.Proof.Gen.ReferenceIdeal.Run
public import Idealize.ShloMosaic.Lib.IntMxu
public import Idealize.ShloMosaic.Lib.StackMember
public import Idealize.ShloMosaic.Lib.MatmulPlain
public import Idealize.ShloMosaic.Lib.Layout
public import Idealize.ShloMosaic.PureOps.Ideal

@[expose] public section

set_option maxRecDepth 100000

noncomputable section

namespace Cert.RingProof

open Cert.KernelIdeal Cert.KernelIdeal.Gen
open Idealize.ShloMosaic Idealize.ShloMosaic.TcCoe Idealize.ShloMosaic.ValueIdx
open Idealize.SL Idealize.SL.Sem

/-! ## Which rows -/

/-- The chunk of rows a device works on at its `k`-th step. -/
def chunk (c : Dev nD) (d : Bool) (k : ℕ) : Fin 16 :=
  match d with
  | false => ⟨(c.val + 16 - k % 16) % 16, Nat.mod_lt _ (by decide)⟩
  | true => ⟨(c.val + k) % 16, Nat.mod_lt _ (by decide)⟩

theorem off1_eq (c : Dev nD) (d : Bool) (k : Fin 16) (u : Fin 2) :
    k0_off1 c (kword d k.val) (subword u) = ![256 * (chunk c d k.val).val + 128 * u.val, 0] := by
  revert c d k u; decide +kernel

theorem chunk_fin16 (c : Dev nD) (d : Bool) (k : ℕ) : chunk c d (fin16 k).val = chunk c d k := by
  cases d <;> apply Fin.ext
  · show (c.val + 16 - k % 16 % 16) % 16 = (c.val + 16 - k % 16) % 16
    omega
  · show (c.val + k % 16) % 16 = (c.val + k) % 16
    omega

theorem src_val_false : ∀ c : Dev nD, (src false c).val = (c.val + 15) % 16 := by decide +kernel
theorem src_val_true : ∀ c : Dev nD, (src true c).val = (c.val + 1) % 16 := by decide +kernel

/-- What a device works on next is what its neighbour has worked on. -/
theorem chunk_src (c : Dev nD) (d : Bool) (k : ℕ) : chunk (src d c) d k = chunk c d (k + 1) := by
  have hc : c.val < 16 := c.isLt
  cases d <;> apply Fin.ext
  · show ((src false c).val + 16 - k % 16) % 16 = (c.val + 16 - (k + 1) % 16) % 16
    rw [src_val_false]; omega
  · show ((src true c).val + k) % 16 = (c.val + (k + 1)) % 16
    rw [src_val_true]; omega

theorem chunk_owner (d : Bool) (r : Fin 16) : chunk (owner d r) d 15 = r := by revert d r; decide

/-- The device a partial sum was at `t` steps before. -/
def back (d : Bool) (c : Dev nD) : ℕ → Dev nD
  | 0 => c
  | t + 1 => back d (src d c) t

theorem back_inj : ∀ (d : Bool) (c : Dev nD) (t t' : Fin 16), back d c t.val = back d c t'.val → t = t' := by
  decide +kernel

/-- Over sixteen steps a partial sum has been at every device once. -/
theorem sum_back (d : Bool) (c : Dev nD) (f : Dev nD → ℤ) : ∑ t ∈ Finset.range 16, f (back d c t) = ∑ e : Dev nD, f e := by
  rw [Finset.sum_range]
  have hb : Function.Bijective (fun t : Fin 16 => (back d c t.val : Dev nD)) :=
    (Fintype.bijective_iff_injective_and_card _).mpr ⟨fun t t' h => back_inj d c t t' h, rfl⟩
  exact hb.sum_comp f

/-! ## The shares as integers -/

section Shares
variable (I : Ins Ideal)

/-- The row of the operand a piece's row is. -/
def rowOf (r : Fin 16) (u : Fin 2) (a : Fin 128) : Fin 4096 := ⟨256 * r.val + 128 * u.val + a.val, by omega⟩
/-- The column of the weights a piece's column is. -/
def colOf (d : Bool) (b : Fin 4096) : Fin 8192 :=
  match d with
  | false => ⟨b.val, by omega⟩
  | true => ⟨4096 + b.val, by omega⟩

theorem xAt_apply (d : Bool) (u : Fin 2) (k : ℕ) (c : Dev nD) (a : Fin 128) (q : Fin 256) :
    xAt I d u (fin16 k) c (ix2 a q) = I.x c (ix2 (rowOf (chunk c d k) u a) q) := by
  show I.x c _ = I.x c _
  congr 1
  funext ax
  apply Fin.ext
  match ax with
  | ⟨0, _⟩ =>
    show k0_off1 c (kword d (fin16 k).val) (subword u) 0 + 1 * a.val = 256 * (chunk c d k).val + 128 * u.val + a.val
    rw [off1_eq, chunk_fin16]
    show 256 * (chunk c d k).val + 128 * u.val + 1 * a.val = _
    omega
  | ⟨1, _⟩ =>
    show k0_off1 c (kword d (fin16 k).val) (subword u) 1 + 1 * q.val = q.val
    rw [off1_eq]
    show 0 + 1 * q.val = q.val
    omega

theorem wAt_apply (d : Bool) (c : Dev nD) (q : Fin 256) (b : Fin 4096) :
    wAt I d c (ix2 q b) = I.w c (ix2 q (colOf d b)) := by
  show I.w c _ = I.w c _
  congr 1
  funext ax
  apply Fin.ext
  match ax with
  | ⟨0, _⟩ => show 0 + 1 * q.val = q.val; omega
  | ⟨1, _⟩ =>
    show wcol d + 1 * b.val = (colOf d b).val
    cases d
    · show 0 + 1 * b.val = b.val; omega
    · show 4096 + 1 * b.val = 4096 + b.val; omega

/-- A device's part of the dot product of a row and a column. -/
def part (c : Dev nD) (a : Fin 4096) (b : Fin 8192) : ℤ :=
  ∑ q : Fin 256, (show BitVec 8 from I.x c (ix2 a q)).toInt * (show BitVec 8 from I.w c (ix2 q b)).toInt

theorem shapeCast_self {s : Shape} {α : Type} (v : s.Idx → α) (h : s.ShapeCasts s) : shapeCast s v h = v := by
  funext j
  show v _ = v j
  congr 1
  simp [shapeCast]

theorem dotI8_plain (x : IVec S128x256 8) (w : IVec S256x4096 8) (a : Fin 128) (b : Fin 4096) :
    dotI8 dot_S128x256_S256x4096_S128x4096_1_0_0_1_n_n x w (ix2 a b) = ∑ q : Fin 256, (x (ix2 a q)).toInt * (w (ix2 q b)).toInt := by
  show dotI8 (DotDims.plain 128 256 4096) x w (ix2 a b) = _
  unfold dotI8
  rw [← Equiv.sum_comp (DotDims.plainContr 128 256 4096).symm]
  refine Finset.sum_congr rfl fun q _ => ?_
  have c2 := contrEquiv1_symm_val (DotDims.plain 128 256 4096) 256 rfl rfl q
  have el : (DotDims.plain 128 256 4096).lhsIdx (ix2 a b) ((DotDims.plainContr 128 256 4096).symm q) = ix2 a q := by
    funext ax; apply Fin.ext
    match ax with
    | ⟨0, _⟩ => rfl
    | ⟨1, _⟩ => exact c2
  have er : (DotDims.plain 128 256 4096).rhsIdx (ix2 a b) ((DotDims.plainContr 128 256 4096).symm q) = ix2 q b := by
    funext ax; apply Fin.ext
    match ax with
    | ⟨0, _⟩ => exact c2
    | ⟨1, _⟩ => rfl
  rw [el, er]

theorem gemm_apply (x : Vec Ideal S128x256 .i8) (w : Vec Ideal S256x4096 .i8) (a : Fin 128) (b : Fin 4096) :
    gemm (F := Ideal) x w (ix2 a b)
      = BitVec.ofInt 32 (∑ q : Fin 256, (show BitVec 8 from x (ix2 a q)).toInt * (show BitVec 8 from w (ix2 q b)).toInt) := by
  unfold gemm
  rw [matmulI8_exact_of_numel _ _ _ _ _ _ rfl (by decide), dotI8_plain]
  rw [shapeCast_self, shapeCast_self]

theorem share_apply (d : Bool) (u : Fin 2) (k : ℕ) (c : Dev nD) (a : Fin 128) (b : Fin 4096) :
    share I d u k c (ix2 a b) = BitVec.ofInt 32 (part I c (rowOf (chunk c d k) u a) (colOf d b)) := by
  unfold share part
  rw [gemm_apply]
  simp only [xAt_apply, wAt_apply]

/-- A partial sum is the word of the sum of the parts of the devices it has been at. -/
theorem PS_apply (d : Bool) (u : Fin 2) (a : Fin 128) (b : Fin 4096) (k : ℕ) : ∀ c : Dev nD,
    PS I d u k c (ix2 a b)
      = BitVec.ofInt 32 (∑ t ∈ Finset.range (k + 1), part I (back d c t) (rowOf (chunk c d k) u a) (colOf d b)) := by
  induction k with
  | zero =>
    intro c
    rw [Finset.sum_range_one]
    exact share_apply I d u 0 c a b
  | succ k ih =>
    intro c
    show PS I d u k (src d c) (ix2 a b) + share I d u (k + 1) c (ix2 a b) = _
    rw [ih, share_apply, chunk_src, ← BitVec.ofInt_add, Finset.sum_range_succ' _ (k + 1)]
    rfl

theorem PS_all (d : Bool) (u : Fin 2) (r : Fin 16) (a : Fin 128) (b : Fin 4096) :
    PS I d u 15 (owner d r) (ix2 a b) = BitVec.ofInt 32 (∑ e : Dev nD, part I e (rowOf r u a) (colOf d b)) := by
  rw [PS_apply, chunk_owner, sum_back d (owner d r) fun e => part I e (rowOf r u a) (colOf d b)]

theorem part_le (c : Dev nD) (a : Fin 4096) (b : Fin 8192) : |part I c a b| ≤ 2 ^ 22 := by
  unfold part
  refine (Finset.abs_sum_le_sum_abs _ _).trans ?_
  refine (Finset.sum_le_card_nsmul _ _ (2 ^ 14) fun q _ => ?_).trans (by simp)
  rw [abs_mul, Int.abs_eq_natAbs, Int.abs_eq_natAbs]
  have h1 := natAbs_toInt_i8_le (show BitVec 8 from I.x c (ix2 a q))
  have h2 := natAbs_toInt_i8_le (show BitVec 8 from I.w c (ix2 q b))
  have h3 := Nat.mul_le_mul h1 h2
  exact_mod_cast h3

theorem sum_part_le (a : Fin 4096) (b : Fin 8192) : |∑ e : Dev nD, part I e a b| ≤ 2 ^ 26 := by
  refine (Finset.abs_sum_le_sum_abs _ _).trans ?_
  exact (Finset.sum_le_card_nsmul _ _ (2 ^ 22) fun e _ => part_le I e a b).trans (by rw [Finset.card_univ]; decide)

theorem toInt_sum_part (a : Fin 4096) (b : Fin 8192) :
    (BitVec.ofInt 32 (∑ e : Dev nD, part I e a b)).toInt = ∑ e : Dev nD, part I e a b := by
  have h := abs_le.mp (sum_part_le I a b)
  rw [BitVec.toInt_ofInt]
  apply Int.bmod_eq_of_le <;> omega

theorem FP_apply (d : Bool) (u : Fin 2) (r : Fin 16) (a : Fin 128) (b : Fin 4096) :
    FP I d r u (ix2 a b)
      = (((∑ e : Dev nD, part I e (rowOf r u a) (colOf d b) : ℤ) : ℝ) : EReal) * (sxAt I (owner d r) * swAt I (owner d r)) := by
  show (((PS I d u 15 (owner d r) (ix2 a b)).toInt : ℝ) : EReal) * _ = _
  rw [PS_all, toInt_sum_part]
  rfl

/-- The result at a row and a column. -/
theorem outX_apply (a : Fin 4096) (b : Fin 8192) : ∃ c : Dev nD,
    outX I (ix2 a b) = (((∑ e : Dev nD, part I e a b : ℤ) : ℝ) : EReal) * (sxAt I c * swAt I c) := by
  refine ⟨owner (decide (4096 ≤ b.val)) ⟨a.val / 256, by omega⟩, ?_⟩
  have hl : locP (ix2 a b) = ix2 (⟨a.val % 128, by omega⟩ : Fin 128) (⟨b.val % 4096, by omega⟩ : Fin 4096) := by
    funext ax
    match ax with
    | ⟨0, _⟩ => rfl
    | ⟨1, _⟩ => rfl
  have hr : rowOf ⟨a.val / 256, by omega⟩ ⟨a.val % 256 / 128, by omega⟩ ⟨a.val % 128, by omega⟩ = a := by
    apply Fin.ext
    show 256 * (a.val / 256) + 128 * (a.val % 256 / 128) + a.val % 128 = a.val
    omega
  have hc : colOf (decide (4096 ≤ b.val)) ⟨b.val % 4096, by omega⟩ = b := by
    apply Fin.ext
    by_cases h : 4096 ≤ b.val
    · rw [decide_eq_true h]
      show 4096 + b.val % 4096 = b.val
      omega
    · rw [decide_eq_false h]
      show b.val % 4096 = b.val
      omega
  unfold outX
  rw [hl]
  refine (FP_apply I (decide (4096 ≤ b.val)) ⟨a.val % 256 / 128, by omega⟩ ⟨a.val / 256, by omega⟩ _ _).trans ?_
  rw [hr, hc]

end Shares

/-! ## The arguments in the staging buffers -/

section Args
variable (m : (ℓ : Loc nD τ sig) → Buf (Elt Ideal) ℓ)

theorem ins_x (c : Dev nD) : (ins m).x c = m ((c : Thread nD τ).loc main_arg0) := by
  funext i
  show m ((c : Thread nD τ).loc main_arg0) _ = m ((c : Thread nD τ).loc main_arg0) _
  congr 1
  funext ax
  apply Fin.ext
  match ax with
  | ⟨0, _⟩ =>
    show win0_2.index t0_0 0 * _ + 1 * (i 0).val = (i 0).val
    rw [show win0_2.index t0_0 0 = 0 by decide +kernel]
    omega
  | ⟨1, _⟩ =>
    show win0_2.index t0_0 1 * _ + 1 * (i 1).val = (i 1).val
    rw [show win0_2.index t0_0 1 = 0 by decide +kernel]
    omega

theorem ins_w (c : Dev nD) : (ins m).w c = m ((c : Thread nD τ).loc main_arg1) := by
  funext i
  show m ((c : Thread nD τ).loc main_arg1) _ = m ((c : Thread nD τ).loc main_arg1) _
  congr 1
  funext ax
  apply Fin.ext
  match ax with
  | ⟨0, _⟩ =>
    show win0_3.index t0_0 0 * _ + 1 * (i 0).val = (i 0).val
    rw [show win0_3.index t0_0 0 = 0 by decide +kernel]
    omega
  | ⟨1, _⟩ =>
    show win0_3.index t0_0 1 * _ + 1 * (i 1).val = (i 1).val
    rw [show win0_3.index t0_0 1 = 0 by decide +kernel]
    omega

theorem s1_sub (i j : Cert.KernelIdeal.S1.Idx) : i = j := by
  funext ax
  match ax with
  | ⟨0, _⟩ =>
    apply Fin.ext
    have h1 : (i 0).val < 1 := (i 0).isLt
    have h2 : (j 0).val < 1 := (j 0).isLt
    show (i 0).val = (j 0).val
    omega

theorem ins_sx (c : Dev nD) (i : Cert.KernelIdeal.S1.Idx) : sxAt (ins m) c = m ((c : Thread nD τ).loc main_arg2) i := by
  show m ((c : Thread nD τ).loc main_arg2) _ = m ((c : Thread nD τ).loc main_arg2) _
  exact congrArg _ (s1_sub _ _)
theorem ins_sw (c : Dev nD) (i : Cert.KernelIdeal.S1.Idx) : swAt (ins m) c = m ((c : Thread nD τ).loc main_arg3) i := by
  show m ((c : Thread nD τ).loc main_arg3) _ = m ((c : Thread nD τ).loc main_arg3) _
  exact congrArg _ (s1_sub _ _)

end Args

/-! ## The whole dot product -/

/-- The dot product of a row and a column, by devices. -/
theorem sum_devices (X : Cert.ReferenceIdeal.S4096x4096.Idx → BitVec 8) (W : S4096x8192.Idx → BitVec 8) (a : Fin 4096) (b : Fin 8192) :
    ∑ e : Fin 16, ∑ q : Fin 256, (X (ix2 a (⟨256 * e.val + q.val, by omega⟩ : Fin 4096))).toInt * (W (ix2 (⟨256 * e.val + q.val, by omega⟩ : Fin 4096) b)).toInt
      = ∑ k : Fin 4096, (X (ix2 a k)).toInt * (W (ix2 k b)).toInt := by
  rw [← Fintype.sum_prod_type' (f := fun (e : Fin 16) (q : Fin 256) => (X (ix2 a (⟨256 * e.val + q.val, by omega⟩ : Fin 4096))).toInt * (W (ix2 (⟨256 * e.val + q.val, by omega⟩ : Fin 4096) b)).toInt)]
  rw [← Equiv.sum_comp (finProdFinEquiv (m := 16) (n := 256)) (fun k : Fin 4096 => (X (ix2 a k)).toInt * (W (ix2 k b)).toInt)]
  refine Finset.sum_congr rfl fun p _ => ?_
  have h : (⟨256 * p.1.val + p.2.val, by omega⟩ : Fin 4096) = finProdFinEquiv (m := 16) (n := 256) p := by
    apply Fin.ext
    show 256 * p.1.val + p.2.val = p.2.val + 256 * p.1.val
    omega
  rw [← h]

theorem coe_sum_int {ι : Type} [Fintype ι] (f : ι → ℤ) : (((∑ k, f k : ℤ) : ℝ) : EReal) = ∑ k, (((f k : ℤ) : ℝ) : EReal) := by
  classical
  refine Finset.induction_on (Finset.univ : Finset ι) (by simp) ?_
  intro k s hk ih
  rw [Finset.sum_insert hk, Finset.sum_insert hk, Int.cast_add, EReal.coe_add, ih]

/-- The reference's term. -/
def refX (X : Cert.ReferenceIdeal.S4096x4096.Idx → BitVec 8) (W : S4096x8192.Idx → BitVec 8) (sx sw : Cert.KernelIdeal.S1.Idx → EReal) : S4096x8192.Idx → EReal :=
  mulf (F := Ideal) (φ := .f32) (Host.dotGeneral (F := Ideal) Cert.ReferenceIdeal.dot_S4096x4096_S4096x8192_S4096x8192_1_0_0_1_n_n (some .fp32) (sitofp .f32 (extsi 32 X Cert.ReferenceIdeal.Gen.natLt_8_32)) (sitofp .f32 (extsi 32 W Cert.ReferenceIdeal.Gen.natLt_8_32)))
    (broadcastInDim Cert.ReferenceIdeal.S4096x8192 ![0, 1] Cert.ReferenceIdeal.Gen.bcast_S1x1_S4096x8192_0_1 (broadcastInDim Cert.ReferenceIdeal.S1x1 ![1] Cert.ReferenceIdeal.Gen.bcast_S1_S1x1_1 (mulf (F := Ideal) (φ := .f32) sx sw)))

theorem refX_apply (X : Cert.ReferenceIdeal.S4096x4096.Idx → BitVec 8) (W : S4096x8192.Idx → BitVec 8) (sx sw : Cert.KernelIdeal.S1.Idx → EReal) (a : Fin 4096) (b : Fin 8192) :
    refX X W sx sw (ix2 a b) = (((∑ k : Fin 4096, (X (ix2 a k)).toInt * (W (ix2 k b)).toInt : ℤ) : ℝ) : EReal) * (sx one0 * sw one0) := by
  have hs : broadcastInDim Cert.ReferenceIdeal.S4096x8192 ![0, 1] Cert.ReferenceIdeal.Gen.bcast_S1x1_S4096x8192_0_1 (broadcastInDim Cert.ReferenceIdeal.S1x1 ![1] Cert.ReferenceIdeal.Gen.bcast_S1_S1x1_1 (mulf (F := Ideal) (φ := .f32) sx sw)) (ix2 a b) = sx one0 * sw one0 := by
    show sx _ * sw _ = _
    rw [s1_sub one0]
  have hd : Host.dotGeneral (F := Ideal) Cert.ReferenceIdeal.dot_S4096x4096_S4096x8192_S4096x8192_1_0_0_1_n_n (some .fp32) (sitofp (F := Ideal) .f32 (extsi 32 X Cert.ReferenceIdeal.Gen.natLt_8_32)) (sitofp (F := Ideal) .f32 (extsi 32 W Cert.ReferenceIdeal.Gen.natLt_8_32)) (ix2 a b)
      = (((∑ k : Fin 4096, (X (ix2 a k)).toInt * (W (ix2 k b)).toInt : ℤ) : ℝ) : EReal) := by
    rw [coe_sum_int]
    refine (Idealize.ShloMosaic.StackMember.dotGeneral_plain_apply (m := 4096) (k := 4096) (n := 8192) (φ₁ := .f32) (φ₂ := .f32) (some .fp32) _ _ a b).trans ?_
    refine Finset.sum_congr rfl fun k _ => ?_
    show ((((X (ix2 a k)).signExtend 32).toInt : ℝ) : EReal) * ((((W (ix2 k b)).signExtend 32).toInt : ℝ) : EReal) = _
    rw [BitVec.toInt_signExtend_of_le (by decide), BitVec.toInt_signExtend_of_le (by decide), Int.cast_mul, EReal.coe_mul]
  show Host.dotGeneral (F := Ideal) _ _ _ _ (ix2 a b) * _ = _
  exact congr (congrArg _ hd) hs

/-- The kernel's result is the reference's, of the arrays the devices hold the blocks of. -/
theorem outX_eq (m : (ℓ : Loc nD τ sig) → Buf (Elt Ideal) ℓ) (X : Cert.ReferenceIdeal.S4096x4096.Idx → BitVec 8) (W : S4096x8192.Idx → BitVec 8)
    (sx sw : Cert.KernelIdeal.S1.Idx → EReal)
    (hx : ∀ c : Dev nD, m ((c : Thread nD τ).loc main_arg0) = Layout.block ⟨2, ![4096, 256]⟩ ⟨2, ![4096, 4096]⟩ 1 16 c X)
    (hw : ∀ c : Dev nD, m ((c : Thread nD τ).loc main_arg1) = Layout.block ⟨2, ![256, 8192]⟩ ⟨2, ![4096, 8192]⟩ 0 16 c W)
    (hsx : ∀ c : Dev nD, m ((c : Thread nD τ).loc main_arg2) = sx)
    (hsw : ∀ c : Dev nD, m ((c : Thread nD τ).loc main_arg3) = sw) : outX (ins m) = refX X W sx sw := by
  funext i
  obtain ⟨a, b, rfl⟩ : ∃ (a : Fin 4096) (b : Fin 8192), i = ix2 a b := ⟨i 0, i 1, eq_ix2 i⟩
  obtain ⟨c, h⟩ := outX_apply (ins m) a b
  rw [h, refX_apply, ins_sx m c one0, ins_sw m c one0, hsx, hsw, ← sum_devices]
  have hp : ∀ e : Fin 16, part (ins m) e a b
      = ∑ q : Fin 256, (X (ix2 a (⟨256 * e.val + q.val, by omega⟩ : Fin 4096))).toInt * (W (ix2 (⟨256 * e.val + q.val, by omega⟩ : Fin 4096) b)).toInt := by
    intro e
    unfold part
    refine Finset.sum_congr rfl fun q _ => ?_
    rw [ins_x, ins_w, hx, hw]
    have h1 : ∀ hT, Layout.block ⟨2, ![4096, 256]⟩ ⟨2, ![4096, 4096]⟩ 1 16 e X hT (ix2 a q) = X (ix2 a (⟨256 * e.val + q.val, by omega⟩ : Fin 4096)) := by
      intro hT
      rw [Layout.block_apply]
      congr 1
      funext ax
      apply Fin.ext
      match ax with
      | ⟨0, _⟩ => rfl
      | ⟨1, _⟩ => show e.val * 256 + q.val = 256 * e.val + q.val; omega
    have h2 : ∀ hT, Layout.block ⟨2, ![256, 8192]⟩ ⟨2, ![4096, 8192]⟩ 0 16 e W hT (ix2 q b) = W (ix2 (⟨256 * e.val + q.val, by omega⟩ : Fin 4096) b) := by
      intro hT
      rw [Layout.block_apply]
      congr 1
      funext ax
      apply Fin.ext
      match ax with
      | ⟨0, _⟩ => show e.val * 256 + q.val = 256 * e.val + q.val; omega
      | ⟨1, _⟩ => rfl
    rw [h1, h2]
  exact congrArg (fun z : ℤ => ((z : ℝ) : EReal) * (sx one0 * sw one0)) (Finset.sum_congr rfl fun e _ => hp e)

end Cert.RingProof

end
-- ==== Proof.lean ====
/-
The claims about the fused product and ring all-reduce: both printings of the kernel run to the end and leave the
machine as it was, so does the reference, and over the extended reals the kernel's result on every device is the
reference's. The run is proved once, for any float values, in Proof/Region.lean; the equation of the two results
is in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Region
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

set_option maxRecDepth 100000 in
/-- The kernel as printed and the kernel printed for the extended reals have the same body. -/
theorem defs₀_eq : (Cert.Kernel.defs₀ (F := Bits)) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl

theorem defs_eq : (Cert.Kernel.defs (F := Bits)) = Cert.KernelIdeal.defs (F := Bits) :=
  congrArg (Pipeline.defs (Cert.KernelIdeal.pcfgs (F := Bits))) defs₀_eq

/-- The kernel as printed: the run at the machine's floats. -/
theorem frame_kernel : Cert.quiescent_Kernel := by
  intro m ρ _
  have key : ∀ D, D = Cert.KernelIdeal.defs (F := Bits) →
      θ_run D (onTc (τ := Cert.Kernel.τ) (Cert.Kernel.main (F := Bits))) ⟨m, fun _ => 0, ρ⟩ (fun r => RingProof.Final m r.2) := by
    rintro _ rfl
    exact RingProof.run_main (F := Bits) m ρ
  exact (θ_run Cert.Kernel.defs _ _).mono (fun _ h => ⟨fun c => (h.1 c).2, h.2⟩) (key _ defs_eq)

theorem frame_ideal : Cert.quiescent_KernelIdeal := fun m ρ _ =>
  (θ_run Cert.KernelIdeal.defs _ _).mono (fun _ h => ⟨fun c => (h.1 c).2, h.2⟩) (RingProof.run_main (F := Ideal) m ρ)

theorem frame_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Every device ends with the reference's result. -/
theorem value : Cert.algebraic_KernelIdeal_ReferenceIdeal := by
  intro m ρ m' ρ' _ hin
  refine ⟨RingProof.outX (RingProof.ins m), ?_, ?_⟩
  · exact (θ_run Cert.KernelIdeal.defs _ _).mono (fun _ h => h.1) (RingProof.run_main (F := Ideal) m ρ)
  · refine (θ_run Cert.ReferenceIdeal.defs _ _).mono (fun r h => ⟨(h 0).1.trans ?_, (h 0).2⟩) (Cert.ReferenceIdeal.Value.run (F := Ideal) m' ρ')
    exact (RingProof.outX_eq m _ _ _ _ (fun c => (hin c).1) (fun c => (hin c).2.1) (fun c => (hin c).2.2.1) (fun c => (hin c).2.2.2)).symm

theorem claim : Cert.Claim := ⟨Cert.Kernel.Gen.facts, Cert.KernelIdeal.Gen.facts, Cert.ReferenceIdeal.Gen.facts,
  frame_kernel, frame_ideal, frame_ref, trivial, value⟩

end Cert.Proof

end
